-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![1024, 256]⟩ (Layout.meshBlock [2, 4, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![256, 256]⟩ ⟨2, ![1024, 256]⟩ (Layout.meshBlock [2, 4, 4] ![[2], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_arg0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_arg0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S256x256 : Shape := ⟨2, ![256, 256]⟩
abbrev S1024x256 : Shape := ⟨2, ![1024, 256]⟩
abbrev S4 : Shape := ⟨1, ![4]⟩
abbrev S_ : Shape := ⟨0, ![]⟩
abbrev S1 : Shape := ⟨1, ![1]⟩
abbrev S128x256 : Shape := ⟨2, ![128, 256]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .local _ .vmem, ⟨0, _⟩ => ⟨S256x256, .f32⟩
  | .local _ .vmem, ⟨1, _⟩ => ⟨S1024x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_18 : BitVec 32 := 4#32
  let v34 : BitVec 32 := Scalar.muli v5 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_19 : BitVec 32 := 1#32
  let v36 : BitVec 32 := Scalar.muli v19 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_23 : BitVec 32 := 4#32
  let v40 : BitVec 32 := Scalar.muli v5 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_24 : BitVec 32 := 1#32
  let v42 : BitVec 32 := Scalar.muli v30 c1_i32_24
  let v43 : BitVec 32 := Scalar.addi v41 v42
  v43.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32 : BitVec 32 := 256#32
  let v44 : BitVec 32 := Scalar.muli v8 c256_i32
  let c0_i32_33 : BitVec 32 := 0#32
  ![v44.toNat, 0]
def k0_dev3 (d0 : Dev nD) : Nat :=
  let c0_i32_30 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_29 : BitVec 32 := 16#32
  let v46 : BitVec 32 := Scalar.muli v2 c16_i32_29
  let v47 : BitVec 32 := Scalar.addi c0_i32_30 v46
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v48 : BitVec 32 := Scalar.muli v5 c4_i32_31
  let v49 : BitVec 32 := Scalar.addi v47 v48
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_32 : BitVec 32 := 1#32
  let v50 : BitVec 32 := Scalar.muli v30 c1_i32_32
  let v51 : BitVec 32 := Scalar.addi v49 v50
  v51.toNat
def k0_dev4 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v57 : BitVec 32 := Scalar.muli v2 c16_i32_36
  let v58 : BitVec 32 := Scalar.addi c0_i32_37 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v59 : BitVec 32 := Scalar.muli v5 c4_i32_38
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_39 : BitVec 32 := 1#32
  let v61 : BitVec 32 := Scalar.muli v19 c1_i32_39
  let v62 : BitVec 32 := Scalar.addi v60 v61
  v62.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c256_i32_42 : BitVec 32 := 256#32
  let v70 : BitVec 32 := Scalar.muli v8 c256_i32_42
  let v71 : Index := Scalar.indexCast v70
  let c0_43 : Index := 0#32
  ![v71.toNat, 0]
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c256_i32_52 : BitVec 32 := 256#32
  let v83 : BitVec 32 := Scalar.muli v19 c256_i32_52
  let c0_i32_59 : BitVec 32 := 0#32
  ![v83.toNat, 0]
def k0_dev5 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v84 : BitVec 32 := Scalar.muli v2 c16_i32_55
  let v85 : BitVec 32 := Scalar.addi c0_i32_56 v84
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v86 : BitVec 32 := Scalar.muli v5 c4_i32_57
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_58 : BitVec 32 := 1#32
  let v88 : BitVec 32 := Scalar.muli v30 c1_i32_58
  let v89 : BitVec 32 := Scalar.addi v87 v88
  v89.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.addi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c256_i32_69 : BitVec 32 := 256#32
  let v107 : BitVec 32 := Scalar.muli v30 c256_i32_69
  let c128_i32_70 : BitVec 32 := 128#32
  let v108 : BitVec 32 := Scalar.addi v107 c128_i32_70
  let c0_i32_76 : BitVec 32 := 0#32
  ![v108.toNat, 0]
def k0_dev6 (d0 : Dev nD) : Nat :=
  let c0_i32_73 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_72 : BitVec 32 := 16#32
  let v109 : BitVec 32 := Scalar.muli v2 c16_i32_72
  let v110 : BitVec 32 := Scalar.addi c0_i32_73 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_74 : BitVec 32 := 4#32
  let v111 : BitVec 32 := Scalar.muli v5 c4_i32_74
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.subi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_75 : BitVec 32 := 1#32
  let v113 : BitVec 32 := Scalar.muli v19 c1_i32_75
  let v114 : BitVec 32 := Scalar.addi v112 v113
  v114.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference.lean ====
abbrev S1024x256 : Shape := ⟨2, ![1024, 256]⟩

abbrev nBuf : Space → Nat
  | .hbm => 1
  | .vmem => 0
  | .smem => 0
  | _ => 0

abbrev bufTy : (tb : Table) → Fin (tcTables nBuf tb) → BufTy
  | .hbm, ⟨0, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Rows.lean ====
/-
  Bands of rows of the gathered 1024×256 array, and the five bands one device's copy of it is cut into.

  A device at position `z` of its group of four keeps five bands: its own 256 rows, the 256 rows of each neighbour in the
  ring, and the two halves of the block of the device opposite. The bands are sets of indices of the array, whatever buffer
  holds it, so nothing here speaks of a program.
-/
module

public import Idealize.ShloMosaic.Shape
public import Idealize.ShloMosaic.Lib.Pipeline.Value
public import Idealize.ShloMosaic.Lib.Pipeline.ValueKit.Geometry
public import Idealize.ShloMosaic.Rules.PointsTo

@[expose] public section

noncomputable section

namespace Cert.Gather

open Idealize.ShloMosaic
open Idealize.SL Idealize.SL.RA
open Idealize.SL.BI (sProp)
open scoped Idealize.SL.BI
open Idealize.SL.BI.BIBase Idealize.SL.BI.Laws Idealize.SL.ProofMode Idealize.SL.Sem

/-- The gathered array's shape. -/
abbrev Whole : Shape := ⟨2, ![1024, 256]⟩

/-- The band of `n` rows from row `lo` on. -/
def rows (lo n : ℕ) : Finset Whole.Idx := Finset.univ.filter fun i => lo ≤ (i 0).val ∧ (i 0).val < lo + n

/-- An index is in a band when its row is. -/
theorem mem_rows {lo n : ℕ} {i : Whole.Idx} : i ∈ rows lo n ↔ lo ≤ (i 0).val ∧ (i 0).val < lo + n := by
  simp [rows]

/-- A row number of the array is below 1024. -/
theorem row_lt (i : Whole.Idx) : (i 0).val < 1024 := (i 0).isLt

/-- Bands one after the other are disjoint. -/
theorem rows_disjoint {a n b k : ℕ} (h : a + n ≤ b ∨ b + k ≤ a) : Disjoint (rows a n) (rows b k) :=
  Finset.disjoint_left.mpr fun i hi hj => by
    rw [mem_rows] at hi hj; omega

/-- A band is its first rows and the rest. -/
theorem rows_add (a n k : ℕ) : rows a (n + k) = rows a n ∪ rows (a + n) k := by
  ext i; rw [Finset.mem_union, mem_rows, mem_rows, mem_rows]; omega

/-- All 1024 rows are the whole array. -/
theorem rows_all : rows 0 1024 = Finset.univ := by
  ext i; have := row_lt i; simp only [mem_rows, Finset.mem_univ, iff_true]; omega

/-- The rectangle of `n` whole rows from row `lo` on is that band. -/
theorem unit_set {off size : Fin 2 → ℕ} {lo n : ℕ} (inb : ∀ a, off a + size a ≤ Whole.size a)
    (ho : off = ![lo, 0]) (hs : size = ![n, 256]) : (Rect.unit (s := Whole) off size inb).set = rows lo n := by
  subst ho; subst hs
  ext i
  rw [Rect.mem_set_unit, mem_rows]
  have h1 : (i 1).val < 256 := (i 1).isLt
  constructor
  · intro h; exact h 0
  · intro h a
    fin_cases a
    · exact h
    · exact ⟨Nat.zero_le _, by show (i 1).val < 0 + 256; omega⟩

/-- One device's block of the array. -/
abbrev Block : Shape := ⟨2, ![256, 256]⟩

/-- An index of the gathered array, counted within its block of 256 rows. -/
def inBlock (i : Whole.Idx) : Block.Idx := fun a =>
  ⟨![(i 0).val % 256, (i 1).val] a, by
    fin_cases a
    · exact Nat.mod_lt _ (by decide)
    · exact (i 1).isLt⟩

/-- The index `j` of the block at row `lo` is `j` counted within the block, when `lo` starts a block. -/
theorem inBlock_eq {i : Whole.Idx} {j : Block.Idx} {k : ℕ} (h0 : (i 0).val = 256 * k + (j 0).val) (h1 : (i 1).val = (j 1).val) :
    inBlock i = j := by
  have hj : (j 0).val < 256 := (j 0).isLt
  funext a
  apply Fin.ext
  fin_cases a
  · show (i 0).val % 256 = (j 0).val
    omega
  · exact h1

/-- An element written through a view holds what was written: if that is `g`'s value under every index, the buffer agrees
    with `g` on all the view covers. -/
theorem write_agrees {sig : RefSig} {κ : Kind} {sp : Space} {s : Shape} {e : EltTy} {Val : EltTy → Type} (v : View sig κ sp s e)
    (f g : v.ty.Contents Val) (w : s.Idx → Val e) (h : ∀ j, _root_.cast (congrArg Val v.elt_eq.symm) (w j) = g (v.emb j)) :
    ∀ i ∈ v.set, v.write Val f w Finset.univ i = g i := by
  intro i hi
  obtain ⟨j, -, rfl⟩ := Finset.mem_map.mp hi
  rw [View.write_emb_of_mem _ _ (Finset.mem_univ j), h]

/-- Copying through a view what a buffer `g` holds under it leaves the target agreeing with `g` there. -/
theorem copy_agrees {sig : RefSig} {κ : Kind} {sp : Space} {s : Shape} {e : EltTy} {Val : EltTy → Type} (v : View sig κ sp s e)
    (f g : v.ty.Contents Val) : ∀ i ∈ v.set, v.write Val f (v.read Val g) Finset.univ i = g i :=
  write_agrees v f g _ fun j => by rw [View.read_apply, cast_cast, cast_eq]

section Split

variable {nD : Nat} {τ : Topo} {sig : RefSig} {Ix : Type} [DecidableEq Ix]
variable {Val : EltTy → Type} {Name : Type} [DecidableEq Name]
variable {U : Type} [URA U] {Lvl : Type}

local notation "𝕄" => MT nD τ sig Ix Val Name U Lvl

/-- Two disjoint sets of elements held together are their union held. -/
theorem two_parts {ℓ : Loc nD τ sig} {q : PosShare TreeShare} {f : Buf Val ℓ} {A B : Finset (Idx ℓ)} (h : Disjoint A B) :
    (ℓ ↦[A ∪ B]{q} f : sProp 𝕄) = iprop((ℓ ↦[A]{q} f) ∗ ℓ ↦[B]{q} f) :=
  have hu := pointsTo_union (nD := nD) (τ := τ) (sig := sig) (Ix := Ix) (Val := Val) (Name := Name) (U := U) (Lvl := Lvl) (q := q) (f := f) h
  BI.equiv_iff.mp ⟨hu.1, hu.2⟩

/-- A set of elements covered by five pairwise disjoint ones is held as the five are held. -/
theorem five_parts {ℓ : Loc nD τ sig} {q : PosShare TreeShare} {f : Buf Val ℓ} {S A B C D E : Finset (Idx ℓ)}
    (hS : S = A ∪ (B ∪ (C ∪ (D ∪ E))))
    (hA : Disjoint A (B ∪ (C ∪ (D ∪ E)))) (hB : Disjoint B (C ∪ (D ∪ E))) (hC : Disjoint C (D ∪ E)) (hD : Disjoint D E) :
    (ℓ ↦[S]{q} f : sProp 𝕄)
      = iprop((ℓ ↦[A]{q} f) ∗ (ℓ ↦[B]{q} f) ∗ (ℓ ↦[C]{q} f) ∗ (ℓ ↦[D]{q} f) ∗ ℓ ↦[E]{q} f) := by
  subst hS
  rw [two_parts hA, two_parts hB, two_parts hC, two_parts hD]

end Split

/-- The first of the 256 rows of the device at position `k` (counted round the group of four). -/
def base (k : ℕ) : ℕ := 256 * (k % 4)

/-- Four steps round the ring come back. -/
theorem base_add_four (k : ℕ) : base (k + 4) = base k := by
  unfold base; rw [Nat.add_mod_right]

/-- The five bands of a device at position `z` cover the array: its own block, its predecessor's, its successor's, the upper
    half of the block two before it and the lower half of the block two after it (the same block). -/
theorem bands_cover (z : ℕ) :
    rows 0 1024 = rows (base z) 256 ∪ (rows (base (z + 3)) 256 ∪ (rows (base (z + 1)) 256
      ∪ (rows (base (z + 6)) 128 ∪ rows (base (z + 2) + 128) 128))) := by
  ext i
  simp only [Finset.mem_union, mem_rows, base]
  omega

/-- The own band meets none of the other four. -/
theorem bands_disjoint₁ (z : ℕ) : Disjoint (rows (base z) 256) (rows (base (z + 3)) 256 ∪ (rows (base (z + 1)) 256
    ∪ (rows (base (z + 6)) 128 ∪ rows (base (z + 2) + 128) 128))) := by
  simp only [Finset.disjoint_union_right]
  refine ⟨rows_disjoint ?_, rows_disjoint ?_, rows_disjoint ?_, rows_disjoint ?_⟩ <;> simp only [base] <;> omega

/-- The predecessor's band meets none of the three after it. -/
theorem bands_disjoint₂ (z : ℕ) : Disjoint (rows (base (z + 3)) 256) (rows (base (z + 1)) 256
    ∪ (rows (base (z + 6)) 128 ∪ rows (base (z + 2) + 128) 128)) := by
  simp only [Finset.disjoint_union_right]
  refine ⟨rows_disjoint ?_, rows_disjoint ?_, rows_disjoint ?_⟩ <;> simp only [base] <;> omega

/-- The successor's band meets neither half of the opposite block. -/
theorem bands_disjoint₃ (z : ℕ) : Disjoint (rows (base (z + 1)) 256) (rows (base (z + 6)) 128 ∪ rows (base (z + 2) + 128) 128) := by
  simp only [Finset.disjoint_union_right]
  refine ⟨rows_disjoint ?_, rows_disjoint ?_⟩ <;> simp only [base] <;> omega

/-- The two halves of the opposite block are disjoint. -/
theorem bands_disjoint₄ (z : ℕ) : Disjoint (rows (base (z + 6)) 128) (rows (base (z + 2) + 128) 128) :=
  rows_disjoint (by simp only [base]; omega)

end Cert.Gather

end
-- ==== Proof.KernelIdeal.Protocol.lean ====
/-
  The exchange of the ring all-gather: who signals whom, what each landing hands over, what each device owes.

  Thirty-two devices in eight rings of four along the last axis of the mesh. Device `c` of a ring at position `z`
    * signals both neighbours' barrier, lending with each signal the bands of its own result that neighbour will write;
    * copies its block to both neighbours (semaphores send 0, 1 / receive 0, 1), reading it meanwhile to store it in its own result;
    * forwards the upper half of its predecessor's block to its successor, the lower half of its successor's block to its
      predecessor (send 2, 3 / receive 2, 3);
    * waits for the four landings and the four sends.
  All bands are held at ONE contents, `whole c`: the gathered array, which the four devices of a ring agree on.
-/
module

public import proofs.«01_k».proof.Proof.Rows
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ring's rounds: two duties a cell at most, told apart by a Boolean. -/
abbrev UB : Type := URounds (GSem nD τ sig) Bool
/-- The pipeline's own rounds beside the ring's. -/
abbrev UU : Type := UR sig nD τ × UB

local notation "𝕄" => MT nD τ sig Unit (Elt F) ℕ UU ℕ

/-- The pipeline's half of the ghost state. -/
abbrev EP : Emb (UR sig nD τ) (MT nD τ sig Unit (Elt F) ℕ UU ℕ) := embL
/-- The ring's half. -/
abbrev ER : Emb UB (MT nD τ sig Unit (Elt F) ℕ UU ℕ) := embR

variable (m : (ℓ : Loc nD τ sig) → Buf (Elt F) ℓ) (ρ : Dev nD → PrngReg)

/-- The starting state: a memory, zero counters. -/
def s₀ : MemSt nD τ sig (Elt F) := ⟨m, fun _ => 0, ρ⟩

/-! ## The rings -/

/-- The device at position `k` (counted round) of `c`'s ring. -/
def mate (c : Dev nD) (k : ℕ) : Dev nD := ⟨c.val - c.val % 4 + k % 4, by have := c.isLt; have : c.val < 32 := this; show _ < 32; omega⟩
/-- The next device of the ring. -/
def nxt (c : Dev nD) : Dev nD := mate c (c.val + 1)
/-- The device before it. -/
def prv (c : Dev nD) : Dev nD := mate c (c.val + 3)

/-- The successor's number. -/
theorem nxt_val (c : Dev nD) : (nxt c).val = c.val - c.val % 4 + (c.val + 1) % 4 := rfl
/-- The predecessor's number. -/
theorem prv_val (c : Dev nD) : (prv c).val = c.val - c.val % 4 + (c.val + 3) % 4 := rfl

/-- The predecessor of the successor. -/
theorem prv_nxt (c : Dev nD) : prv (nxt c) = c := Fin.ext (by rw [prv_val, nxt_val]; omega)
/-- The successor of the predecessor. -/
theorem nxt_prv (c : Dev nD) : nxt (prv c) = c := Fin.ext (by rw [nxt_val, prv_val]; omega)
/-- The rings as a permutation of the devices. -/
def ring : Dev nD ≃ Dev nD := ⟨nxt, prv, prv_nxt, nxt_prv⟩

/-- A device is the one at its own position. -/
theorem mate_self (c : Dev nD) : mate c c.val = c := Fin.ext (by show c.val - c.val % 4 + c.val % 4 = c.val; omega)
/-- A successor's ring is the ring. -/
theorem mate_nxt (c : Dev nD) (k : ℕ) : mate (nxt c) k = mate c k := Fin.ext (by
  show (nxt c).val - (nxt c).val % 4 + k % 4 = c.val - c.val % 4 + k % 4
  rw [nxt_val]; omega)
/-- A predecessor's too. -/
theorem mate_prv (c : Dev nD) (k : ℕ) : mate (prv c) k = mate c k := by rw [← mate_nxt (prv c), nxt_prv]

/-- Positions counted from the successor. -/
theorem base_nxt (c : Dev nD) (k : ℕ) : base ((nxt c).val + k) = base (c.val + 1 + k) := by
  unfold base; rw [nxt_val]; omega
/-- Positions counted from the predecessor. -/
theorem base_prv (c : Dev nD) (k : ℕ) : base ((prv c).val + k) = base (c.val + 3 + k) := by
  unfold base; rw [prv_val]; omega

/-- The first signal goes to the predecessor, -/
theorem dev1_eq (c : Dev nD) : (⟨k0_dev1 c, k0_dev1_lt c⟩ : Dev nD) = prv c := by revert c; decide +kernel
/-- the second to the successor; -/
theorem dev2_eq (c : Dev nD) : (⟨k0_dev2 c, k0_dev2_lt c⟩ : Dev nD) = nxt c := by revert c; decide +kernel
/-- the first copy goes to the successor, -/
theorem dev3_eq (c : Dev nD) : (⟨k0_dev3 c, k0_dev3_lt c⟩ : Dev nD) = nxt c := by revert c; decide +kernel
/-- the second to the predecessor, -/
theorem dev4_eq (c : Dev nD) : (⟨k0_dev4 c, k0_dev4_lt c⟩ : Dev nD) = prv c := by revert c; decide +kernel
/-- the third to the successor, -/
theorem dev5_eq (c : Dev nD) : (⟨k0_dev5 c, k0_dev5_lt c⟩ : Dev nD) = nxt c := by revert c; decide +kernel
/-- the fourth to the predecessor. -/
theorem dev6_eq (c : Dev nD) : (⟨k0_dev6 c, k0_dev6_lt c⟩ : Dev nD) = prv c := by revert c; decide +kernel

/-- The own block's rows, -/
theorem off1_eq (c : Dev nD) : k0_off1 c = ![base c.val, 0] := k0_off1_eq c
/-- as the store names them; -/
theorem off2_eq (c : Dev nD) : k0_off2 c = ![base c.val, 0] := k0_off2_eq c
/-- the predecessor's upper half block; -/
theorem off3_eq (c : Dev nD) : k0_off3 c = ![base (c.val + 3), 0] := by revert c; decide +kernel
/-- the successor's lower half block. -/
theorem off4_eq (c : Dev nD) : k0_off4 c = ![base (c.val + 1) + 128, 0] := by revert c; decide +kernel

/-! ## Memrefs, semaphores, cells -/

/-- The staged block of `x`. -/
abbrev xM : Memref sig .tc .vmem S256x256 .f32 := Memref.whole cc0_stg0_0
/-- The staged result. -/
abbrev oM : Memref sig .tc .vmem S1024x256 .f32 := Memref.whole cc0_stg1_0

/-- The rows of the result the first copies move to. -/
abbrev own (c : Dev nD) : Memref sig .tc .vmem S256x256 .f32 :=
  oM.slice (Rect.unit (s := S1024x256) (k0_off1 c) S256x256.size (k0_off1_inb c)) (fun _ => rfl)
/-- The rows the third copy moves. -/
abbrev upper (c : Dev nD) : Memref sig .tc .vmem S128x256 .f32 :=
  oM.slice (Rect.unit (s := S1024x256) (k0_off3 c) S128x256.size (k0_off3_inb c)) (fun _ => rfl)
/-- The rows the fourth copy moves. -/
abbrev lower (c : Dev nD) : Memref sig .tc .vmem S128x256 .f32 :=
  oM.slice (Rect.unit (s := S1024x256) (k0_off4 c) S128x256.size (k0_off4_inb c)) (fun _ => rfl)

/-- The runtime's barrier semaphore. -/
abbrev barS : Sem sig := (SemArray.scalar (sig.barrier 0 rfl) : Sems sig S_).sem

/-- The DMA semaphore numbered `k`. -/
abbrev dq (k : ℕ) (h : k < 10 := by decide) : DmaSem sig := ⟨k, h⟩

/-- The send semaphores as the kernel reaches them: -/
theorem send0 : ((cc0_scratch0.slice (Rect.unit (s := S4) ![0] ![1] inb_S4_S1_0)).squeeze S_ squeezes_S1_S_).sem = dq 2 := rfl
/-- number 1, -/
theorem send1 : ((cc0_scratch0.slice (Rect.unit (s := S4) ![1] ![1] inb_S4_S1_1)).squeeze S_ squeezes_S1_S_).sem = dq 3 := rfl
/-- number 2, -/
theorem send2 : ((cc0_scratch0.slice (Rect.unit (s := S4) ![2] ![1] inb_S4_S1_2)).squeeze S_ squeezes_S1_S_).sem = dq 4 := rfl
/-- number 3; -/
theorem send3 : ((cc0_scratch0.slice (Rect.unit (s := S4) ![3] ![1] inb_S4_S1_3)).squeeze S_ squeezes_S1_S_).sem = dq 5 := rfl
/-- and the receive semaphores: number 0, -/
theorem recv0 : ((cc0_scratch1.slice (Rect.unit (s := S4) ![0] ![1] inb_S4_S1_0)).squeeze S_ squeezes_S1_S_).sem = dq 6 := rfl
/-- number 1, -/
theorem recv1 : ((cc0_scratch1.slice (Rect.unit (s := S4) ![1] ![1] inb_S4_S1_1)).squeeze S_ squeezes_S1_S_).sem = dq 7 := rfl
/-- number 2, -/
theorem recv2 : ((cc0_scratch1.slice (Rect.unit (s := S4) ![2] ![1] inb_S4_S1_2)).squeeze S_ squeezes_S1_S_).sem = dq 8 := rfl
/-- number 3. -/
theorem recv3 : ((cc0_scratch1.slice (Rect.unit (s := S4) ![3] ![1] inb_S4_S1_3)).squeeze S_ squeezes_S1_S_).sem = dq 9 := rfl

/-- A device's barrier cell. -/
abbrev barCell (c : Dev nD) : GSem nD τ sig := ((c : Thread nD τ), .reg barS)
/-- A device's cell of a DMA semaphore. -/
abbrev dCell (c : Dev nD) (q : DmaSem sig) : GSem nD τ sig := ((c : Thread nD τ), .dma q)

/-- A device's nine cells in order: the barrier, the four sends, the four receives. -/
def slot : Fin 9 → SemLoc sig
  | 0 => .reg barS | 1 => .dma (dq 2) | 2 => .dma (dq 3) | 3 => .dma (dq 4) | 4 => .dma (dq 5)
  | 5 => .dma (dq 6) | 6 => .dma (dq 7) | 7 => .dma (dq 8) | 8 => .dma (dq 9)
/-- All cells of the exchange. -/
abbrev kcell (ck : Dev nD × Fin 9) : GSem nD τ sig := ((ck.1 : Thread nD τ), slot ck.2)

/-- What a copy of a whole block credits. -/
abbrev N : ℕ := xM.view.dmaCredit
/-- What a copy of half a block credits. -/
abbrev H : ℕ := (oM.slice (Rect.unit (s := S1024x256) ![0, 0] S128x256.size (by decide)) (fun _ => rfl) : Memref sig .tc .vmem S128x256 .f32).view.dmaCredit
/-- It is something. -/
theorem N_pos : 0 < N := View.dmaCredit_pos _ (by decide)
/-- So is that. -/
theorem H_pos : 0 < H := View.dmaCredit_pos _ (by decide)
/-- The own band is credited as a block, -/
theorem own_credit (c : Dev nD) : (own c).view.dmaCredit = N := rfl
/-- the two forwarded bands as halves. -/
theorem upper_credit (c : Dev nD) : (upper c).view.dmaCredit = H := rfl
/-- Likewise. -/
theorem lower_credit (c : Dev nD) : (lower c).view.dmaCredit = H := rfl

/-! ## Contents -/

/-- Device `c`'s block of `x`, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The gathered array of `c`'s ring: row `r` is row `r % 256` of the block of the device at position `r / 256`. -/
def whole (c : Dev nD) : (cc0_stg1_0 : Ref sig .tc).ty.Contents (Elt F) :=
  fun i => xstg m ρ (mate c ((i 0).val / 256)) (inBlock i)

omit [FloatOps F] in
/-- The successor gathers the same array, -/
theorem whole_nxt (c : Dev nD) : whole m ρ (nxt c) = whole m ρ c := funext fun i => by unfold whole; rw [mate_nxt]
omit [FloatOps F] in
/-- and so does the predecessor. -/
theorem whole_prv (c : Dev nD) : whole m ρ (prv c) = whole m ρ c := funext fun i => by unfold whole; rw [mate_prv]

/-- The staged block held at share `q`. -/
def xPts (q : PosShare TreeShare) (c : Dev nD) : sProp 𝕄 := ((c : Thread nD τ).loc cc0_stg0_0) ↦{q} xstg m ρ c
/-- The band of `n` rows from `lo` of `c`'s result, held at contents `f`. -/
def band (c : Dev nD) (lo n : ℕ) (f : (cc0_stg1_0 : Ref sig .tc).ty.Contents (Elt F)) : sProp 𝕄 :=
  ((c : Thread nD τ).loc cc0_stg1_0) ↦[(rows lo n : Finset (Idx ((c : Thread nD τ).loc cc0_stg1_0)))]{fullShare} f

omit [FloatOps F] in
/-- The own band is the block's rows, -/
theorem own_set (c : Dev nD) : (own c).view.set = rows (base c.val) 256 :=
  (View.set_slice_whole cc0_stg1_0 _).trans (unit_set _ (off1_eq c) rfl)
omit [FloatOps F] in
/-- the third copy's rows are the predecessor's upper half, -/
theorem upper_set (c : Dev nD) : (upper c).view.set = rows (base (c.val + 3)) 128 :=
  (View.set_slice_whole cc0_stg1_0 _).trans (unit_set _ (off3_eq c) rfl)
omit [FloatOps F] in
/-- the fourth's the successor's lower half. -/
theorem lower_set (c : Dev nD) : (lower c).view.set = rows (base (c.val + 1) + 128) 128 :=
  (View.set_slice_whole cc0_stg1_0 _).trans (unit_set _ (off4_eq c) rfl)

omit [FloatOps F] in
/-- At an index of `c`'s own block the gathered array is `c`'s block. -/
theorem whole_own (c : Dev nD) {i : Whole.Idx} {j : Block.Idx} (h0 : (i 0).val = base c.val + (j 0).val) (h1 : (i 1).val = (j 1).val) :
    whole m ρ c i = xstg m ρ c j := by
  have hj : (j 0).val < 256 := (j 0).isLt
  unfold base at h0
  unfold whole
  rw [inBlock_eq h0 h1, show (i 0).val / 256 = c.val % 4 by omega,
    show mate c (c.val % 4) = c from Fin.ext (by show c.val - c.val % 4 + c.val % 4 % 4 = c.val; omega)]

omit [FloatOps F] in
/-- So, under a rectangle of those rows, it holds `c`'s block. -/
theorem whole_rect (c : Dev nD) (off : Fin 2 → ℕ) (inb : ∀ a, off a + S256x256.size a ≤ S1024x256.size a) (ho : off = ![base c.val, 0])
    (j : Block.Idx) : xstg m ρ c j = whole m ρ c ((Rect.unit (s := S1024x256) off S256x256.size inb).emb j) := by
  subst ho
  have h0 := ValueKit.rect_emb_unit_val (s := S1024x256) ![base c.val, 0] S256x256.size inb j 0
  have h1 := ValueKit.rect_emb_unit_val (s := S1024x256) ![base c.val, 0] S256x256.size inb j 1
  exact (whole_own m ρ c h0 (h1.trans (Nat.zero_add (j 1).val))).symm

/-- The store's rows of the result. -/
abbrev r2 (c : Dev nD) : Rect S1024x256 := Rect.unit (s := S1024x256) (k0_off2 c) S256x256.size (k0_off2_inb c)

omit [FloatOps F] in
/-- They are the own band. -/
theorem r2_set (c : Dev nD) : (oM.access (r2 c) : View sig .tc _ _ _).set = rows (base c.val) 256 :=
  (View.set_slice_whole cc0_stg1_0 _).trans (unit_set _ (off2_eq c) rfl)

omit [FloatOps F] in
/-- What the first copies leave in a neighbour's result agrees with the gathered array on the rows they wrote. -/
theorem own_landed (c : Dev nD) (f : (cc0_stg1_0 : Ref sig .tc).ty.Contents (Elt F)) :
    ∀ i ∈ (own c).view.set, (own c).view.write (Elt F) f (xM.view.read (Elt F) (xstg m ρ c)) Finset.univ i = whole m ρ c i :=
  write_agrees (own c).view f (whole m ρ c) _ fun j => by
    rw [cast_eq, View.read_whole]
    exact whole_rect m ρ c _ _ (off1_eq c) j

omit [FloatOps F] in
/-- So does what the store leaves in the device's own result. -/
theorem own_stored (c : Dev nD) (f : (cc0_stg1_0 : Ref sig .tc).ty.Contents (Elt F)) :
    ∀ i ∈ (oM.access (r2 c) : View sig .tc _ _ _).set,
      (oM.access (r2 c) : View sig .tc _ _ _).write (Elt F) f (xstg m ρ c) Finset.univ i = whole m ρ c i :=
  write_agrees (oM.access (r2 c) : View sig .tc _ _ _) f (whole m ρ c) (xstg m ρ c) fun j => by
    rw [cast_eq]
    exact whole_rect m ρ c _ _ (off2_eq c) j

omit [FloatOps F] in
instance xPts_storable (q) (c : Dev nD) : BI.Storable (upEmb : UEmb _ 𝕄) (xPts (F := F) m ρ q c) := by unfold xPts; infer_instance
omit [FloatOps F] in
instance band_storable (c : Dev nD) (lo n : ℕ) (f) : BI.Storable (upEmb : UEmb _ 𝕄) (band (F := F) c lo n f) := by unfold band; infer_instance

/-! ## The schedule -/

/-- The bands of `d`'s result its predecessor writes: the predecessor's block, and the half block it forwards. -/
def lentUp (d : Dev nD) : sProp 𝕄 := iprop((∃ f, band d (base (d.val + 3)) 256 f) ∗ ∃ f, band d (base (d.val + 6)) 128 f)
/-- The bands of `d`'s result its successor writes. -/
def lentDown (d : Dev nD) : sProp 𝕄 := iprop((∃ f, band d (base (d.val + 1)) 256 f) ∗ ∃ f, band d (base (d.val + 2) + 128) 128 f)

/-- What a completed copy hands over on the DMA semaphore numbered `q` of device `c`: a send the source it read, a receive
    the band it wrote, both at the gathered array. -/
def handed (c : Dev nD) : ℕ → sProp 𝕄
  | 2 => xPts m ρ fullShare.left c
  | 3 => xPts m ρ fullShare.right.left c
  | 4 => band c (base (c.val + 3)) 128 (whole m ρ c)
  | 5 => band c (base (c.val + 1) + 128) 128 (whole m ρ c)
  | 6 => band c (base (c.val + 3)) 256 (whole m ρ c)
  | 7 => band c (base (c.val + 1)) 256 (whole m ρ c)
  | 8 => band c (base (c.val + 6)) 128 (whole m ρ c)
  | 9 => band c (base (c.val + 2) + 128) 128 (whole m ρ c)
  | _ => iprop(emp)

/-- What it credits there. -/
def credit (q : ℕ) : ℕ := if q = 4 ∨ q = 5 ∨ q = 8 ∨ q = 9 then H else N

/-- The first copies are credited as blocks, where they are sent -/
theorem credit_2 : credit 2 = N := if_neg (by decide)
/-- (both), -/
theorem credit_3 : credit 3 = N := if_neg (by decide)
/-- the second ones as halves -/
theorem credit_4 : credit 4 = H := if_pos (by decide)
/-- (both), -/
theorem credit_5 : credit 5 = H := if_pos (by decide)
/-- and where they land: the first -/
theorem credit_6 : credit 6 = N := if_neg (by decide)
/-- (both), -/
theorem credit_7 : credit 7 = N := if_neg (by decide)
/-- the second -/
theorem credit_8 : credit 8 = H := if_pos (by decide)
/-- (both). -/
theorem credit_9 : credit 9 = H := if_pos (by decide)

/-- A cell's duties: both neighbours' signals on the barrier, one copy on each of the eight DMA semaphores. -/
def slotDuties : SemLoc sig → Finset Bool
  | .reg _ => Finset.univ
  | .dma q => if 2 ≤ q.val then {false} else ∅

/-- The exchange: every cell one round. -/
def Rd : Rounds.Schedule (GSem nD τ sig) Bool 𝕄 where
  duties g r := if r = 0 ∧ g.1.2 = .tc then slotDuties g.2 else ∅
  unitless _ := False
  amount g _ _ := match g.2 with | .reg _ => 1 | .dma q => credit q.val
  payload g _ d := match g.2 with
    | .reg _ => if d then lentUp (nxt g.1.1) else lentDown (prv g.1.1)
    | .dma q => handed m ρ g.1.1 q.val
  amount_pos g _ _ _ := by
    split
    · exact Nat.one_pos
    · unfold credit; split
      · exact H_pos
      · exact N_pos

omit [FloatOps F] in
instance handed_storable (c : Dev nD) (q : ℕ) : BI.Storable (upEmb : UEmb _ 𝕄) (handed (F := F) m ρ c q) := by
  unfold handed; split <;> infer_instance

omit [FloatOps F] in
instance Rd_payload_storable (g : GSem nD τ sig) (r : ℕ) (d : Bool) :
    BI.Storable (upEmb : UEmb _ 𝕄) ((Rd (F := F) m ρ).payload g r d) := by
  obtain ⟨t, sm⟩ := g
  cases sm with
  | reg s =>
    show BI.Storable upEmb (if d then lentUp (nxt t.1) else lentDown (prv t.1))
    unfold lentUp lentDown
    split <;> infer_instance
  | dma q =>
    show BI.Storable upEmb (handed m ρ t.1 q.val)
    infer_instance

section Sched
variable (c : Dev nD)

omit [FloatOps F] in
/-- The barrier has both duties. -/
theorem duties_bar : (Rd (F := F) m ρ).duties (barCell c) 0 = Finset.univ := by
  dsimp only [Rd]; exact if_pos ⟨rfl, rfl⟩
omit [FloatOps F] in
/-- A DMA cell of the exchange has one. -/
theorem duties_dma {q : DmaSem sig} (hq : 2 ≤ q.val) : (Rd (F := F) m ρ).duties (dCell c q) 0 = {false} := by
  dsimp only [Rd]; rw [if_pos ⟨rfl, rfl⟩]; exact if_pos hq
omit [FloatOps F] in
/-- No cell has a second round. -/
theorem duties_later (g : GSem nD τ sig) : ∀ r, 1 ≤ r → (Rd (F := F) m ρ).duties g r = ∅ :=
  fun r hr => by dsimp only [Rd]; exact if_neg fun h => by omega

omit [FloatOps F] in
/-- A signal is worth one. -/
theorem amount_bar (d : Bool) : (Rd (F := F) m ρ).amount (barCell c) 0 d = 1 := rfl
omit [FloatOps F] in
/-- The barrier expects two. -/
theorem expect_bar : (Rd (F := F) m ρ).expect (barCell c) 0 = 2 := by
  unfold Schedule.expect Schedule.amountOf
  rw [duties_bar, Finset.sum_congr rfl fun d _ => amount_bar m ρ c d]; rfl
omit [FloatOps F] in
/-- A DMA cell expects its copy's credit. -/
theorem expect_dma {q : DmaSem sig} (hq : 2 ≤ q.val) : (Rd (F := F) m ρ).expect (dCell c q) 0 = credit q.val := by
  unfold Schedule.expect Schedule.amountOf
  rw [duties_dma m ρ c hq, Finset.sum_singleton]; rfl

omit [FloatOps F] in
/-- What the wait at the barrier receives: bands of both neighbours' results. -/
theorem rest_bar : bigSep ((Rd (F := F) m ρ).duties (barCell c) 0 \ ∅) (fun d => (Rd (F := F) m ρ).payload (barCell c) 0 d)
    = iprop(lentDown (prv c) ∗ lentUp (nxt c)) := by
  rw [Finset.sdiff_empty, duties_bar, bigSep_univ_eq_bigSepL [false, true] (by decide) (by decide), bigSepL_cons_cons, bigSepL_singleton]
  rfl
omit [FloatOps F] in
/-- What the wait on a DMA cell receives. -/
theorem rest_dma {q : DmaSem sig} (hq : 2 ≤ q.val) :
    bigSep ((Rd (F := F) m ρ).duties (dCell c q) 0 \ ∅) (fun d => (Rd (F := F) m ρ).payload (dCell c q) 0 d) = handed m ρ c q.val := by
  rw [Finset.sdiff_empty, duties_dma m ρ c hq, bigSep_singleton]; rfl

end Sched

/-! ## Who lends and hands over what, told from one device -/

section Around
variable (c : Dev nD)

omit [FloatOps F] in
/-- The predecessor lends `c` the rows of `c`'s block and of the half block `c` forwards to it. -/
theorem lentDown_prv : lentDown (F := F) (prv c)
    = iprop((∃ f, band (prv c) (base c.val) 256 f) ∗ ∃ f, band (prv c) (base (c.val + 1) + 128) 128 f) := by
  unfold lentDown
  rw [base_prv, base_prv, show c.val + 3 + 1 = c.val + 4 from rfl, show c.val + 3 + 2 = c.val + 1 + 4 from rfl, base_add_four, base_add_four]
omit [FloatOps F] in
/-- The successor lends likewise. -/
theorem lentUp_nxt : lentUp (F := F) (nxt c)
    = iprop((∃ f, band (nxt c) (base c.val) 256 f) ∗ ∃ f, band (nxt c) (base (c.val + 3)) 128 f) := by
  unfold lentUp
  rw [base_nxt, base_nxt, show c.val + 1 + 3 = c.val + 4 by omega, show c.val + 1 + 6 = c.val + 3 + 4 by omega, base_add_four, base_add_four]
omit [FloatOps F] in
/-- `c`'s block, landed at its successor. -/
theorem handed_6 : handed m ρ (nxt c) 6 = band (nxt c) (base c.val) 256 (whole m ρ c) := by
  show band (nxt c) (base ((nxt c).val + 3)) 256 (whole m ρ (nxt c)) = _
  rw [base_nxt, whole_nxt, show c.val + 1 + 3 = c.val + 4 by omega, base_add_four]
omit [FloatOps F] in
/-- `c`'s block, landed at its predecessor. -/
theorem handed_7 : handed m ρ (prv c) 7 = band (prv c) (base c.val) 256 (whole m ρ c) := by
  show band (prv c) (base ((prv c).val + 1)) 256 (whole m ρ (prv c)) = _
  rw [base_prv, whole_prv, show c.val + 3 + 1 = c.val + 4 by omega, base_add_four]
omit [FloatOps F] in
/-- The half block `c` forwards, landed at its successor. -/
theorem handed_8 : handed m ρ (nxt c) 8 = band (nxt c) (base (c.val + 3)) 128 (whole m ρ c) := by
  show band (nxt c) (base ((nxt c).val + 6)) 128 (whole m ρ (nxt c)) = _
  rw [base_nxt, whole_nxt, show c.val + 1 + 6 = c.val + 3 + 4 by omega, base_add_four]
omit [FloatOps F] in
/-- The half block `c` forwards, landed at its predecessor. -/
theorem handed_9 : handed m ρ (prv c) 9 = band (prv c) (base (c.val + 1) + 128) 128 (whole m ρ c) := by
  show band (prv c) (base ((prv c).val + 2) + 128) 128 (whole m ρ (prv c)) = _
  rw [base_prv, whole_prv, show c.val + 3 + 2 = c.val + 1 + 4 by omega, base_add_four]

omit [FloatOps F] in
/-- A device's whole result is its five bands. -/
theorem out_parts (f : (cc0_stg1_0 : Ref sig .tc).ty.Contents (Elt F)) :
    ((((c : Thread nD τ).loc cc0_stg1_0) ↦{fullShare} f : sProp 𝕄))
      = iprop(band c (base c.val) 256 f ∗ band c (base (c.val + 3)) 256 f ∗ band c (base (c.val + 1)) 256 f
          ∗ band c (base (c.val + 6)) 128 f ∗ band c (base (c.val + 2) + 128) 128 f) :=
  five_parts (rows_all.symm.trans (bands_cover c.val)) (bands_disjoint₁ _) (bands_disjoint₂ _) (bands_disjoint₃ _) (bands_disjoint₄ _)
omit [FloatOps F] in
/-- A band of a block is its two halves. -/
theorem band_halves (lo : ℕ) (f : (cc0_stg1_0 : Ref sig .tc).ty.Contents (Elt F)) :
    (band c lo 256 f : sProp 𝕄) = iprop(band c lo 128 f ∗ band c (lo + 128) 128 f) :=
  (congrArg (fun S => (((c : Thread nD τ).loc cc0_stg1_0) ↦[S]{fullShare} f : sProp 𝕄)) (rows_add lo 128 128)).trans
    (two_parts (rows_disjoint (Or.inl (Nat.le_refl _))))
omit [FloatOps F] in
/-- The staged block, held whole, is held by the two copies that read it and by the load. -/
theorem x_parts :
    ((((c : Thread nD τ).loc cc0_stg0_0) ↦{fullShare} xstg m ρ c : sProp 𝕄))
      = iprop(xPts m ρ fullShare.left c ∗ xPts m ρ fullShare.right.left c ∗ xPts m ρ fullShare.right.right c) := by
  have h1 := pointsTo_share (nD := nD) (τ := τ) (sig := sig) (Ix := Unit) (Val := Elt F) (Name := ℕ) (U := UU) (Lvl := ℕ)
    (ℓ := (c : Thread nD τ).loc cc0_stg0_0) (I := Finset.univ) (f := xstg m ρ c) (PosShare.mem_left_op_right fullShare)
  have h2 := pointsTo_share (nD := nD) (τ := τ) (sig := sig) (Ix := Unit) (Val := Elt F) (Name := ℕ) (U := UU) (Lvl := ℕ)
    (ℓ := (c : Thread nD τ).loc cc0_stg0_0) (I := Finset.univ) (f := xstg m ρ c) (PosShare.mem_left_op_right fullShare.right)
  rw [BI.equiv_iff.mp ⟨h1.1, h1.2⟩, BI.equiv_iff.mp ⟨h2.1, h2.2⟩]
  rfl

end Around

/-! ## What each device owes; the levels -/

/-- Once it has forwarded to its successor, a device owes its predecessor the last half block; -/
def O₄ (c : Dev nD) : CellTallies nD τ sig Unit := tallyAt (dCell (prv c) (dq 9)) () (credit 9)
/-- before that also its successor a half block, -/
def O₃ (c : Dev nD) : CellTallies nD τ sig Unit := O₄ c + tallyAt (dCell (nxt c) (dq 8)) () (credit 8)
/-- before that its predecessor its own block, -/
def O₂ (c : Dev nD) : CellTallies nD τ sig Unit := O₃ c + tallyAt (dCell (prv c) (dq 7)) () (credit 7)
/-- and before that its successor its own block: this is what it owes at the barrier. -/
def O₁ (c : Dev nD) : CellTallies nD τ sig Unit := O₂ c + tallyAt (dCell (nxt c) (dq 6)) () (credit 6)
/-- Before its second signal it owes its successor's barrier a unit, -/
def Os (c : Dev nD) : CellTallies nD τ sig Unit := O₁ c + tallyAt (barCell (nxt c)) () 1
/-- and at the start its predecessor's. -/
def O₀ (c : Dev nD) : CellTallies nD τ sig Unit := Os c + tallyAt (barCell (prv c)) () 1

/-- The semaphores of the TensorCores take part. -/
def L (g : GSem nD τ sig) : Finset Unit := if g.1.2 = .tc then {()} else ∅

/-- The level of a DMA semaphore: first landings under second landings, all else below. -/
def rank (q : ℕ) : ℕ := if q = 8 ∨ q = 9 then 3 else if q = 6 ∨ q = 7 then 2 else 0
/-- The level of a cell: the barrier between the sends and the first landings. -/
def lv (g : GSem nD τ sig) (_ : Unit) : ℕ := match g.2 with | .reg _ => 1 | .dma q => rank q.val

/-- Nothing elsewhere. -/
theorem L_of_ne (g : GSem nD τ sig) (h : g.1.2 ≠ .tc) : L g = ∅ := if_neg h

/-- All that is owed lies on TensorCore cells of level above `k`. -/
def Above (k : ℕ) (O : CellTallies nD τ sig Unit) : Prop := ∀ g u, 0 < O g u → g.1.2 = .tc ∧ k < lv g u

/-- Owing nothing is above any level; -/
theorem above_zero (k : ℕ) : Above k 0 := fun g u h => absurd h (Nat.lt_irrefl 0)
/-- owing two things is when owing each is; -/
theorem Above.add {k : ℕ} {O O' : CellTallies nD τ sig Unit} (h : Above k O) (h' : Above k O') : Above k (O + O') := fun g u hg => by
  rw [Pi.add_apply, Finsupp.add_apply] at hg
  rcases Nat.eq_zero_or_pos (O g u) with h0 | h0
  · exact h' g u (by omega)
  · exact h g u h0
/-- owing a credit to a cell is when the cell is. -/
theorem above_tally {k : ℕ} (c : Dev nD) (sm : SemLoc sig) (n : ℕ) (h : k < lv ((c : Thread nD τ), sm) ()) :
    Above k (tallyAt ((c : Thread nD τ), sm) () n) := fun g u hg => by
  rw [tallyAt_apply] at hg
  by_cases he : g = ((c : Thread nD τ), sm) ∧ u = ()
  · rw [he.1]; exact ⟨rfl, h⟩
  · rw [if_neg he] at hg; exact absurd hg (Nat.lt_irrefl 0)

/-- A larger bound is a stronger one. -/
theorem Above.mono {k l : ℕ} {O : CellTallies nD τ sig Unit} (h : Above l O) (hk : k ≤ l) : Above k O :=
  fun g u hg => ⟨(h g u hg).1, Nat.lt_of_le_of_lt hk (h g u hg).2⟩

/-- The second landings are above the first; -/
theorem above_O₄ (c : Dev nD) : Above 2 (O₄ c) := above_tally _ _ _ (by show 2 < 3; decide)
/-- both of them; -/
theorem above_O₃ (c : Dev nD) : Above 2 (O₃ c) := (above_O₄ c).add (above_tally _ _ _ (by show 2 < 3; decide))
/-- all landings are above the barrier; -/
theorem above_O₁ (c : Dev nD) : Above 1 (O₁ c) :=
  (((above_O₃ c).mono (by decide)).add (above_tally _ _ _ (by show 1 < 2; decide))).add (above_tally _ _ _ (by show 1 < 2; decide))
/-- everything is above the pipeline's own semaphores. -/
theorem above_O₀ (c : Dev nD) : Above 0 (O₀ c) :=
  (((above_O₁ c).mono (by decide)).add (above_tally _ _ _ (by show 0 < 1; decide))).add (above_tally _ _ _ (by show 0 < 1; decide))

omit [FloatOps F] in
/-- A device may wait on a cell when all it owes is above it. -/
theorem mayWait (c : Dev nD) (sm : SemLoc sig) {k : ℕ} {O : CellTallies nD τ sig Unit} (hk : lv ((c : Thread nD τ), sm) () ≤ k) (h : Above k O) :
    (levAts L lv : sProp 𝕄) ⊢ MayWait (c : Thread nD τ) sm () O :=
  MayOwe.of_cut (L := L) (lev := lv) k
    (fun p hp => by rw [Finset.mem_singleton.mp hp]; exact Finset.mem_singleton_self _)
    (fun g u hg => by unfold L; rw [if_pos (h g u hg).1]; exact Finset.mem_singleton_self _)
    (fun p hp => by rw [Finset.mem_singleton.mp hp]; exact hk)
    (fun g u hg => (h g u hg).2)

end Cert.KernelIdeal.Ring

end
-- ==== Proof.KernelIdeal.Steps.lean ====
/-
  What one device starts and ends with, and its two kinds of step stated over the exchange's bands: a copy to a neighbour,
  a wait for a copy.
-/
module

public import proofs.«01_k».proof.Proof.KernelIdeal.Protocol

@[expose] public section

noncomputable section

namespace Cert.KernelIdeal.Ring

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's ghost state -/

/-- What all devices share: every cell's invariant, under the names `K`, and that every cell has reached its round. -/
def records (K : Dev nD × Fin 9 → ℕ) : sProp 𝕄 :=
  iprop((bigSep Finset.univ fun ck : Dev nD × Fin 9 => cellInv ER (Rd m ρ) (K ck) (kcell ck))
    ∗ bigSep Finset.univ fun ck : Dev nD × Fin 9 => reached ER (kcell ck) 0)

instance records_persistent (K : Dev nD × Fin 9 → ℕ) : BI.Persistent (records m ρ K) := by unfold records; infer_instance

omit [FloatOps F] in
/-- One cell's invariant. -/
theorem inv_at (K : Dev nD × Fin 9 → ℕ) (ck : Dev nD × Fin 9) : records m ρ K ⊢ cellInv ER (Rd m ρ) (K ck) (kcell ck) := by
  unfold records
  iintro ⟨H, -⟩
  have h : (bigSep Finset.univ fun ck : Dev nD × Fin 9 => (cellInv ER (Rd m ρ) (K ck) (kcell ck) : sProp 𝕄)) ⊢ cellInv ER (Rd m ρ) (K ck) (kcell ck) :=
    bigSep_elim (Finset.mem_univ ck)
  iapply h; iexact H
omit [FloatOps F] in
/-- That one cell has reached its round. -/
theorem reached_at (K : Dev nD × Fin 9 → ℕ) (ck : Dev nD × Fin 9) : records m ρ K ⊢ (reached ER (kcell ck) 0 : sProp 𝕄) := by
  unfold records
  iintro ⟨-, H⟩
  have h : (bigSep Finset.univ fun ck : Dev nD × Fin 9 => (reached ER (kcell ck) 0 : sProp 𝕄)) ⊢ reached ER (kcell ck) 0 :=
    bigSep_elim (Finset.mem_univ ck)
  iapply h; iexact H

/-- A device's place at the start of one of its cells. -/
abbrev place (c : Dev nD) (sm : SemLoc sig) : sProp 𝕄 := atPos ER ((c : Thread nD τ), sm) 0 ∅ 0
/-- One of its cells back at zero. -/
abbrev zero (c : Dev nD) (sm : SemLoc sig) : sProp 𝕄 := semVal ((c : Thread nD τ), sm) 0

/-- The nine places. -/
def places (c : Dev nD) : sProp 𝕄 :=
  iprop(place c (.reg barS) ∗ place c (.dma (dq 2)) ∗ place c (.dma (dq 3)) ∗ place c (.dma (dq 4)) ∗ place c (.dma (dq 5))
    ∗ place c (.dma (dq 6)) ∗ place c (.dma (dq 7)) ∗ place c (.dma (dq 8)) ∗ place c (.dma (dq 9)))

/-- The tokens of the ten duties a device pays: the two signals, the four landings, the four sends. -/
def pays (c : Dev nD) : sProp 𝕄 :=
  iprop(dutyTok ER (barCell (prv c)) 0 true ∗ dutyTok ER (barCell (nxt c)) 0 false
    ∗ dutyTok ER (dCell (nxt c) (dq 6)) 0 false ∗ dutyTok ER (dCell (prv c) (dq 7)) 0 false
    ∗ dutyTok ER (dCell (nxt c) (dq 8)) 0 false ∗ dutyTok ER (dCell (prv c) (dq 9)) 0 false
    ∗ dutyTok ER (dCell c (dq 2)) 0 false ∗ dutyTok ER (dCell c (dq 3)) 0 false
    ∗ dutyTok ER (dCell c (dq 4)) 0 false ∗ dutyTok ER (dCell c (dq 5)) 0 false)

/-- The exchange's ghost state on one device. -/
def ghost (K : Dev nD × Fin 9 → ℕ) (c : Dev nD) : sProp 𝕄 := iprop(records m ρ K ∗ places c ∗ pays c)

/-- The credits a device is due: its two neighbours' signals, its four landings. -/
def dues (c : Dev nD) : sProp 𝕄 :=
  iprop(cred (tallyAt (barCell c) () 2) ∗ cred (tallyAt (dCell c (dq 6)) () (credit 6)) ∗ cred (tallyAt (dCell c (dq 7)) () (credit 7))
    ∗ cred (tallyAt (dCell c (dq 8)) () (credit 8)) ∗ cred (tallyAt (dCell c (dq 9)) () (credit 9)))

/-- What a device's body starts from. -/
def Φ₀ (c : Dev nD) : sProp 𝕄 := iprop((∃ K, ghost m ρ K c) ∗ dues c ∗ levAts L lv)

/-- What it leaves: its nine cells at zero. -/
def Φ₁ (c : Dev nD) : sProp 𝕄 :=
  iprop(zero c (.reg barS) ∗ zero c (.dma (dq 2)) ∗ zero c (.dma (dq 3)) ∗ zero c (.dma (dq 4)) ∗ zero c (.dma (dq 5))
    ∗ zero c (.dma (dq 6)) ∗ zero c (.dma (dq 7)) ∗ zero c (.dma (dq 8)) ∗ zero c (.dma (dq 9)))

/-- The pipeline's data: `x`'s block staged, the gathered array written back. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => whole m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- No loop variants. -/
abbrev 𝒱₀ : Variants := Variants.none

/-! ## A wait -/

section Steps

variable (K : Dev nD × Fin 9 → ℕ)

/-- A wait for a copy: with nothing owed at or below the cell's level, the device receives what the copy hands over (`P`) and
    the cell, done with, at zero. -/
theorem wp_take (c : Dev nD) (k : Fin 9) (q : DmaSem sig) (hs : slot k = .dma q) (hq : 2 ≤ q.val) {l : ℕ} {O : CellTallies nD τ sig Unit}
    (hl : rank q.val ≤ l) (hO : Above l O) (W : Waits sig Unit) {s : Shape} {src dst : Memref sig .tc .vmem s .f32}
    {hsrc : src.view.WordExact} {hdst : dst.view.WordExact} (hN : dst.view.dmaCredit = credit q.val)
    (P : sProp 𝕄) (hP : handed m ρ c q.val = P)
    {α : Type} {Q : α → sProp 𝕄} {kk : PUnit → Prog (TpuEff nD τ sig (Elt F) Λ₀ .tc) α} :
    iprop(records m ρ K ∗ levAts L lv ∗ cred (tallyAt (dCell c q) () (credit q.val)) ∗ owes (c : Thread nD τ) O W ∗ place c (.dma q))
      ⊢ iprop(((owes (c : Thread nD τ) O (insert (SemLoc.dma q, ()) W) ∗ zero c (.dma q) ∗ P)
            -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q src dst hsrc hdst) kk) Q) := by
  have hi : records m ρ K ⊢ cellInv ER (Rd m ρ) (K (c, k)) (dCell c q) := by
    have := inv_at m ρ K (c, k); unfold kcell at this; rwa [hs] at this
  iintro ⟨#HR, #Hlev, Hc, HO, Hat⟩ Hk
  ihave #HI := hi $$ HR
  iapply (Rounds.wp_wait_rest_token 𝒱₀ ER (Rd m ρ) (c : Thread nD τ) none (κ := K (c, k))
      (wpE_waitDma2_eq 𝒱₀ (c : Thread nD τ) none Set.univ) (Set.mem_univ _) () (O := O) (W := W) (R := 0) (m := 0) (T := ∅)
      (by rw [Nat.zero_add, hN, expect_dma m ρ c hq])) $$ [Hc HO Hat]
  · rw [hN]
    isplitr; · iexact HI
    isplitl [Hc]; · iexact Hc
    isplitl [HO]; · iexact HO
    isplitr; · iapply (mayWait c (.dma q) hl hO); iexact Hlev
    iexact Hat
  iintro ⟨HO, Hat, -, Hpay⟩
  imod (Rounds.cell_close ER (Rd m ρ) (Set.mem_univ (K (c, k))) (fun h => h) (R := 0 + 1) (duties_later m ρ (dCell c q))) $$ [Hat] with Hz
  · isplitr; · iexact HI
    iexact Hat
  iapply Hk
  isplitl [HO]; · iexact HO
  isplitl [Hz]; · iexact Hz
  iapply (Entails.of_eq ((rest_dma m ρ c hq).trans hP)); iexact Hpay

/-! ## A copy -/

/-- A copy from device `c` to device `n`, on `c`'s send semaphore `qs` and `n`'s receive semaphore `qr`: it pays both cells'
    duties, discharges the credit owed to `n` and makes the one `c` will collect for its source. -/
theorem wp_copy (c n n' : Dev nD) (hn : n' = n) (ks kr : Fin 9) (qs qr : DmaSem sig) (hks : slot ks = .dma qs) (hkr : slot kr = .dma qr)
    (hqs : 2 ≤ qs.val) (hqr : 2 ≤ qr.val) {s : Shape} {src dst : Memref sig .tc .vmem s .f32}
    (hcs : dst.view.dmaCredit = credit qs.val) (hcr : dst.view.dmaCredit = credit qr.val)
    {hsc : (dst : Memref sig (Dev.tc n' : Thread nD τ).2.kind .vmem s .f32).view.ref.isScScratch = false}
    {hsrc : src.view.WordExact} {hdst : dst.view.WordExact}
    {hsem : DmaTarget.Typed .vmem (.dma qr) (.remote (Dev.tc n' : Thread nD τ) (dst : Memref sig .tc .vmem s .f32) (.dma qs) hsc)}
    {q : PosShare TreeShare} {fs : Buf (Elt F) (src.view.loc (c : Thread nD τ))} {fd : Buf (Elt F) (dst.view.loc (n : Thread nD τ))}
    (hp₁ : (src.view.loc (c : Thread nD τ) ↦[src.view.set]{q} fs) ⊢ handed m ρ c qs.val)
    (hp₂ : (dst.view.loc (n : Thread nD τ) ↦[dst.view.set]{fullShare} (dst.view.write (Elt F) fd (src.view.read (Elt F) fs) Finset.univ))
      ⊢ handed m ρ n qr.val)
    (O : CellTallies nD τ sig Unit) {O' : CellTallies nD τ sig Unit} (hO : O' = O + tallyAt (dCell n qr) () (credit qr.val)) (W : Waits sig Unit)
    {α : Type} {Q : α → sProp 𝕄} {kk : PUnit → Prog (TpuEff nD τ sig (Elt F) Λ₀ .tc) α} :
    iprop(records m ρ K ∗ (src.view.loc (c : Thread nD τ) ↦[src.view.set]{q} fs) ∗ (dst.view.loc (n : Thread nD τ) ↦[dst.view.set]{fullShare} fd)
        ∗ owes (c : Thread nD τ) O' W ∗ dutyTok ER (dCell c qs) 0 false ∗ dutyTok ER (dCell n qr) 0 false)
      ⊢ iprop(((cred (tallyAt (dCell c qs) () (credit qs.val)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src (.remote (Dev.tc n' : Thread nD τ) dst (.dma qs) hsc) (.dma qr) hsrc hdst hsem) kk) Q) := by
  subst hn
  have hi (d : Dev nD) (k : Fin 9) (p : DmaSem sig) (h : slot k = .dma p) : records m ρ K ⊢ cellInv ER (Rd m ρ) (K (d, k)) (dCell d p) := by
    have := inv_at m ρ K (d, k); unfold kcell at this; rwa [h] at this
  have hr (d : Dev nD) (k : Fin 9) (p : DmaSem sig) (h : slot k = .dma p) : records m ρ K ⊢ (reached ER (dCell d p) 0 : sProp 𝕄) := by
    have := reached_at m ρ K (d, k); unfold kcell at this; rwa [h] at this
  have hO' : O' = O + tallyAt (dCell n' qr) () dst.view.dmaCredit := by rw [hcr]; exact hO
  rw [← hcs]
  iintro ⟨#HR, Hs, Hd, HO, Ht₁, Ht₂⟩
  iapply (Rounds.wp_send_pointsTo 𝒱₀ ER (Rd m ρ) (c : Thread nD τ) none (κ₁ := K (c, ks)) (κ₂ := K (n', kr))
    (r₁ := 0) (r₂ := 0) (d₁ := false) (d₂ := false) (fd := fd)
    (by rw [duties_dma m ρ c hqs]; exact Finset.mem_singleton_self _) (by rw [duties_dma m ρ n' hqr]; exact Finset.mem_singleton_self _)
    () () dst.view.dmaCredit rfl
    (show (Rd m ρ).amount ((c : Thread nD τ), .dma qs) 0 false = _ from hcs.symm)
    (show (Rd m ρ).amount ((n' : Thread nD τ), .dma qr) 0 false = _ from hcr.symm) O hO' (W := W) hp₁ hp₂)
  isplitr; · iapply (hi c ks qs hks); iexact HR
  isplitr; · iapply (hi n' kr qr hkr); iexact HR
  isplitl [Hs]; · iexact Hs
  isplitl [Hd]; · iexact Hd
  isplitl [HO]; · iexact HO
  isplitl [Ht₁]; · iexact Ht₁
  isplitr; · iapply (hr c ks qs hks); iexact HR
  isplitl [Ht₂]; · iexact Ht₂
  iapply (hr n' kr qr hkr); iexact HR

/-- A first copy: the device's own block, read at share `q`, to the rows of that block at a neighbour. -/
theorem wp_first (c n n' : Dev nD) (hn : n' = n) (ks kr : Fin 9) (qs qr : DmaSem sig) (hks : slot ks = .dma qs) (hkr : slot kr = .dma qr)
    (hqs : 2 ≤ qs.val) (hqr : 2 ≤ qr.val) (hcs : N = credit qs.val) (hcr : N = credit qr.val)
    {hsc : (own c : Memref sig (Dev.tc n' : Thread nD τ).2.kind .vmem S256x256 .f32).view.ref.isScScratch = false}
    {hsrc : xM.view.WordExact} {hdst : (own c).view.WordExact}
    {hsem : DmaTarget.Typed .vmem (.dma qr) (.remote (Dev.tc n' : Thread nD τ) (own c) (.dma qs) hsc)}
    {q : PosShare TreeShare} (fd : (cc0_stg1_0 : Ref sig .tc).ty.Contents (Elt F))
    (hp₁ : xPts m ρ q c = handed m ρ c qs.val) (hp₂ : handed m ρ n qr.val = band n (base c.val) 256 (whole m ρ c))
    (O : CellTallies nD τ sig Unit) {O' : CellTallies nD τ sig Unit} (hO : O' = O + tallyAt (dCell n qr) () (credit qr.val)) (W : Waits sig Unit)
    {α : Type} {Q : α → sProp 𝕄} {kk : PUnit → Prog (TpuEff nD τ sig (Elt F) Λ₀ .tc) α} :
    iprop(records m ρ K ∗ xPts m ρ q c ∗ band n (base c.val) 256 fd
        ∗ owes (c : Thread nD τ) O' W ∗ dutyTok ER (dCell c qs) 0 false ∗ dutyTok ER (dCell n qr) 0 false)
      ⊢ iprop(((cred (tallyAt (dCell c qs) () (credit qs.val)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma xM (.remote (Dev.tc n' : Thread nD τ) (own c) (.dma qs) hsc) (.dma qr) hsrc hdst hsem) kk) Q) := by
  have hx : (xM.view.loc (c : Thread nD τ) ↦[xM.view.set]{q} xstg m ρ c : sProp 𝕄) = xPts m ρ q c := by
    unfold xPts; rw [View.set_whole]
  have hb (f : (cc0_stg1_0 : Ref sig .tc).ty.Contents (Elt F)) :
      ((own c).view.loc (n : Thread nD τ) ↦[(own c).view.set]{fullShare} f : sProp 𝕄) = band n (base c.val) 256 f := by
    unfold band; rw [own_set]
  have h := wp_copy m ρ K c n n' hn ks kr qs qr hks hkr hqs hqr (src := xM) (dst := own c) ((own_credit c).trans hcs) ((own_credit c).trans hcr)
    (hsc := hsc) (hsrc := hsrc) (hdst := hdst) (hsem := hsem) (q := q) (fs := xstg m ρ c) (fd := fd)
    (by rw [hx, hp₁])
    (by rw [hp₂, ← hb]; exact Entails.of_eq (pointsTo_congr (own_landed m ρ c fd))) O hO W (Q := Q) (kk := kk)
  rw [hx, hb] at h
  exact h

/-- A second copy: half a block the device has received, to the same rows at a neighbour. -/
theorem wp_second (c n n' : Dev nD) (hn : n' = n) (ks kr : Fin 9) (qs qr : DmaSem sig) (hks : slot ks = .dma qs) (hkr : slot kr = .dma qr)
    (hqs : 2 ≤ qs.val) (hqr : 2 ≤ qr.val) {v : Memref sig .tc .vmem S128x256 .f32} {off : Fin 2 → ℕ} (inb : ∀ a, off a + S128x256.size a ≤ S1024x256.size a)
    (hv : v = oM.slice (Rect.unit (s := S1024x256) off S128x256.size inb) (fun _ => rfl)) {lo : ℕ} (ho : off = ![lo, 0])
    (hcs : H = credit qs.val) (hcr : H = credit qr.val)
    {hsc : (v : Memref sig (Dev.tc n' : Thread nD τ).2.kind .vmem S128x256 .f32).view.ref.isScScratch = false}
    {hsrc : v.view.WordExact} {hdst : v.view.WordExact}
    {hsem : DmaTarget.Typed .vmem (.dma qr) (.remote (Dev.tc n' : Thread nD τ) v (.dma qs) hsc)}
    (fd : (cc0_stg1_0 : Ref sig .tc).ty.Contents (Elt F))
    (hp₁ : band c lo 128 (whole m ρ c) = handed m ρ c qs.val) (hp₂ : handed m ρ n qr.val = band n lo 128 (whole m ρ c))
    (O : CellTallies nD τ sig Unit) {O' : CellTallies nD τ sig Unit} (hO : O' = O + tallyAt (dCell n qr) () (credit qr.val)) (W : Waits sig Unit)
    {α : Type} {Q : α → sProp 𝕄} {kk : PUnit → Prog (TpuEff nD τ sig (Elt F) Λ₀ .tc) α} :
    iprop(records m ρ K ∗ band c lo 128 (whole m ρ c) ∗ band n lo 128 fd
        ∗ owes (c : Thread nD τ) O' W ∗ dutyTok ER (dCell c qs) 0 false ∗ dutyTok ER (dCell n qr) 0 false)
      ⊢ iprop(((cred (tallyAt (dCell c qs) () (credit qs.val)) ∗ owes (c : Thread nD τ) O W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma v (.remote (Dev.tc n' : Thread nD τ) v (.dma qs) hsc) (.dma qr) hsrc hdst hsem) kk) Q) := by
  subst hv
  set v : Memref sig .tc .vmem S128x256 .f32 := oM.slice (Rect.unit (s := S1024x256) off S128x256.size inb) (fun _ => rfl) with hv
  have hset : v.view.set = rows lo 128 := (View.set_slice_whole cc0_stg1_0 _).trans (unit_set _ ho rfl)
  have hb (d : Dev nD) (f : (cc0_stg1_0 : Ref sig .tc).ty.Contents (Elt F)) :
      (v.view.loc (d : Thread nD τ) ↦[v.view.set]{fullShare} f : sProp 𝕄) = band d lo 128 f := by
    unfold band; rw [hset]
  have hc : v.view.dmaCredit = H := rfl
  have h := wp_copy m ρ K c n n' hn ks kr qs qr hks hkr hqs hqr (src := v) (dst := v) (hc.trans hcs) (hc.trans hcr)
    (hsc := hsc) (hsrc := hsrc) (hdst := hdst) (hsem := hsem) (q := fullShare) (fs := whole m ρ c) (fd := fd)
    (by rw [hb, hp₁])
    (by rw [hp₂, ← hb]; exact Entails.of_eq (pointsTo_congr (copy_agrees v.view fd (whole m ρ c)))) O hO W (Q := Q) (kk := kk)
  rw [hb, hb] at h
  exact h

end Steps

end Cert.KernelIdeal.Ring

end
-- ==== Proof.KernelIdeal.Body.lean ====
/-
  One device's body, run once for a symbolic device.
-/
module

public import proofs.«01_k».proof.Proof.KernelIdeal.Steps

@[expose] public section

noncomputable section

namespace Cert.KernelIdeal.Ring

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's one point -/

omit [FloatOps F] in
/-- The pipeline runs the body once. -/
theorem cfg0_N : cfg0.N = 1 := by decide
/-- That one point. -/
def t₀ : Fin cfg0.N := ⟨0, by decide⟩
omit [FloatOps F] in
/-- There is no other. -/
theorem fin_N : ∀ t : Fin cfg0.N, t = t₀ := by decide
omit [FloatOps F] in
/-- The two windows, one by one. -/
theorem bigSep_W (P : Fin cfg0.W → sProp 𝕄) :
    (bigSep Finset.univ P : sProp 𝕄) = iprop(P ⟨0, by decide⟩ ∗ P ⟨1, by decide⟩) := bigSep_W0 P
omit [FloatOps F] in
/-- `x`'s block is fetched before the body. -/
theorem fetch_x (t : Fin cfg0.N) : (cfg0.win (0 : Fin 2)).fetch t = true := by rw [fin_N t]; rfl
/-- A staging buffer held whole. -/
theorem owns_whole_eq (c : Dev nD) (b : Ref sig .tc) {q : PosShare TreeShare} (f : b.ty.Contents (Elt F)) :
    (owns (c : Thread nD τ) (Memref.whole b) q f : sProp 𝕄) = iprop(∃ g, ⌜g = f⌝ ∗ (((c : Thread nD τ).loc b) ↦{q} g)) := by
  unfold owns; simp only [Memref.view_whole, View.read_whole, View.set_whole]

/-- A buffer of contents `X`, held whole. -/
abbrev stg (c : Dev nD) (b : Ref sig .tc) (X : b.ty.Contents (Elt F)) : sProp 𝕄 :=
  iprop(∃ g, ⌜g = X⌝ ∗ (((c : Thread nD τ).loc b) ↦{fullShare} g))

/-- What the body is given. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves: `x`'s block as it was, the gathered array. -/
def bodyPost (c : Dev nD) : sProp 𝕄 :=
  iprop(Φ₁ c ∗ (dats m ρ 0 c).owesAt () t₀.succ ∗ stg c cc0_stg0_0 (xstg m ρ c) ∗ stg c cc0_stg1_0 (whole m ρ c))

/-! ## The signals, the barrier, the load and the store -/

section Parts

variable (K : Dev nD × Fin 9 → ℕ) (c : Dev nD)

/-- A signal to a neighbour's barrier hands over what that duty says. -/
theorem wp_ready (n n' : Dev nD) (hn : n' = n) (d : Bool) {P : sProp 𝕄} (hP : P ⊢ (Rd m ρ).payload (barCell n) 0 d)
    (O : CellTallies nD τ sig Unit) {O' : CellTallies nD τ sig Unit} (hO : O' = O + tallyAt (barCell n) () 1) (W : Waits sig Unit)
    {α : Type} {Q : α → sProp 𝕄} {kk : PUnit → Prog (TpuEff nD τ sig (Elt F) Λ₀ .tc) α} :
    iprop(records m ρ K ∗ P ∗ owes (c : Thread nD τ) O' W ∗ dutyTok ER (barCell n) 0 d)
      ⊢ iprop((owes (c : Thread nD τ) O W -∗ wp frame (wpE (defs₀ (F := F)) 𝒱₀ (c : Thread nD τ) none) Set.univ (kk ⟨⟩) Q)
          -∗ wp frame (wpE (defs₀ (F := F)) 𝒱₀ (c : Thread nD τ) none) Set.univ
              (.op (.semSignal (Dev.tc n' : Thread nD τ) barS (1#32 : BitVec 32).toNat) kk) Q) := by
  subst hn hO
  iintro ⟨#HR, HP, HO, Ht⟩
  iapply (Rounds.wp_signal 𝒱₀ ER (Rd m ρ) (c : Thread nD τ) none (dst := (Dev.tc n' : Thread nD τ)) (κ := K (n', 0)) (d := d)
    (by rw [duties_bar m ρ n']; exact Finset.mem_univ _) ((amount_bar m ρ n' d).trans (by decide)) () O rfl)
  isplitr; · iapply (inv_at m ρ K (n', 0)); iexact HR
  isplitl [HO]; · iexact HO
  isplitl [Ht]; · iexact Ht
  isplitl [HP]; · iapply hP; iexact HP
  iapply (reached_at m ρ K (n', 0)); iexact HR

omit [FloatOps F] in
/-- The barrier's cell lies at the bottom. -/
theorem bar_low : lv ((c : Thread nD τ), SemLoc.reg barS) () ≤ 1 := by revert c; decide

/-- The barrier's wait: both neighbours lend. -/
theorem wp_both (W : Waits sig Unit)
    {α : Type} {Q : α → sProp 𝕄} {kk : PUnit → Prog (TpuEff nD τ sig (Elt F) Λ₀ .tc) α} :
    iprop(records m ρ K ∗ levAts L lv ∗ cred (tallyAt (barCell c) () 2) ∗ owes (c : Thread nD τ) (O₁ c) W ∗ place c (.reg barS))
      ⊢ iprop(((owes (c : Thread nD τ) (O₁ c) (insert (SemLoc.reg barS, ()) W) ∗ zero c (.reg barS) ∗ lentDown (F := F) (prv c) ∗ lentUp (F := F) (nxt c))
            -∗ wp frame (wpE (defs₀ (F := F)) 𝒱₀ (c : Thread nD τ) none) Set.univ (kk ⟨⟩) Q)
          -∗ wp frame (wpE (defs₀ (F := F)) 𝒱₀ (c : Thread nD τ) none) Set.univ (.op (.semWait barS (2#32 : BitVec 32).toNat) kk) Q) := by
  iintro ⟨#HR, #Hlev, Hc, HO, Hat⟩ Hk
  ihave #HI := (inv_at m ρ K (c, 0)) $$ HR
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar m ρ c]; decide)) $$ [Hc HO Hat]
  · isplitr; · iexact HI
    isplitl [Hc]; · iexact Hc
    isplitl [HO]; · iexact HO
    isplitr; · iapply (mayWait c (.reg barS) (k := 1) (bar_low c) (above_O₁ c)); iexact Hlev
    iexact Hat
  iintro ⟨HO, Hat, -, Hpay⟩
  imod (Rounds.cell_close ER (Rd m ρ) (Set.mem_univ (K (c, 0))) (fun h => h) (R := 0 + 1) (duties_later m ρ (barCell c))) $$ [Hat] with Hz
  · isplitr; · iexact HI
    iexact Hat
  iapply Hk
  isplitl [HO]; · iexact HO
  isplitl [Hz]; · iexact Hz
  iapply (Entails.of_eq (rest_bar m ρ c)); iexact Hpay

/-- The load of the own rows, whose value nothing reads. -/
theorem wp_peek (f : (cc0_stg1_0 : Ref sig .tc).ty.Contents (Elt F)) {hl : oM.view.LoadsAt (r2 c).toLoadRect}
    {α : Type} {kk : ((r2 c).shape.Idx → Elt F .f32) → Prog (TpuEff nD τ sig (Elt F) Λ₀ .tc) α} {Q : α → sProp 𝕄} :
    (band c (base c.val) 256 f : sProp 𝕄)
      ⊢ iprop((band c (base c.val) 256 f -∗ wp frame (wpE (defs₀ (F := F)) 𝒱₀ (c : Thread nD τ) none) Set.univ (kk ((oM.access (r2 c)).read (Elt F) f)) Q)
          -∗ wp frame (wpE (defs₀ (F := F)) 𝒱₀ (c : Thread nD τ) none) Set.univ (.op (.load oM (r2 c).toLoadRect hl) kk) Q) :=
  wp_load_rect 𝒱₀ (c : Thread nD τ) none Set.univ (m := oM) (r := r2 c) (r2_set c).subset

/-- The store puts `x`'s block in its rows of the result. -/
theorem wp_put (f : (cc0_stg1_0 : Ref sig .tc).ty.Contents (Elt F)) {hx : (oM.access (r2 c)).Stores Finset.univ}
    {hm : (Finset.univ : Finset (r2 c).shape.Idx) = Finset.univ ∨ ∀ a, (r2 c).stride a = 1}
    {α : Type} {Q : α → sProp 𝕄} {kk : PUnit → Prog (TpuEff nD τ sig (Elt F) Λ₀ .tc) α} :
    (band c (base c.val) 256 f : sProp 𝕄)
      ⊢ iprop((band c (base c.val) 256 (whole m ρ c) -∗ wp frame (wpE (defs₀ (F := F)) 𝒱₀ (c : Thread nD τ) none) Set.univ (kk ⟨⟩) Q)
          -∗ wp frame (wpE (defs₀ (F := F)) 𝒱₀ (c : Thread nD τ) none) Set.univ (.op (.store oM (r2 c) (xstg m ρ c) Finset.univ hx hm) kk) Q) := by
  have hb (g : (cc0_stg1_0 : Ref sig .tc).ty.Contents (Elt F)) :
      ((oM.access (r2 c)).loc (c : Thread nD τ) ↦[(oM.access (r2 c)).set]{fullShare} g : sProp 𝕄) = band c (base c.val) 256 g := by
    unfold band; exact congrArg (fun S => (((c : Thread nD τ).loc cc0_stg1_0) ↦[S]{fullShare} g : sProp 𝕄)) (r2_set c)
  have h := wp_store (defs := defs₀ (F := F)) (Γ := .empty) 𝒱₀ (c : Thread nD τ) none Set.univ (m := oM) (r := r2 c) (w := xstg m ρ c) (Mk := Finset.univ) (hx := hx) (hm := hm)
    (k := kk) (Q := Q) (S := (oM.access (r2 c)).set) (f := f) (View.setOn_univ _).subset
  rw [hb, pointsTo_congr (own_stored m ρ c f), hb] at h
  exact h

end Parts

/-! ## The body -/

omit [FloatOps F] in
/-- A block's credit, by the staging buffer it is sent from. -/
theorem x_credit : xM.view.dmaCredit = N := rfl

omit [FloatOps F] in
/-- The load of `x`'s staging buffer reads what it holds. -/
theorem read_x (f : (cc0_stg0_0 : Ref sig .tc).ty.Contents (Elt F)) :
    (xM.view.readAt (Elt F) (Rect.unit (s := S256x256) ![0, 0] S256x256.size inb_S256x256_S256x256_0_0).toLoadRect f) = f :=
  Memref.readAt_unit_zero (Elt F) cc0_stg0_0 (by decide) _ f

set_option maxHeartbeats 1600000 in
/-- The body, from its ghost state and the two staging buffers, leaves its cells at zero and the gathered array. -/
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, Prog.bind_assoc, wp_deviceId]
  simp only [send0, send1, send2, send3, recv0, recv1, recv2, recv3]
  unfold bodyPre Φ₀ ghost places pays dues
  iintro ⟨⟨⟨⟨%K, #HR, ⟨Pb, P2, P3, P4, P5, P6, P7, P8, P9⟩, Tb, Tb', T6, T7, T8, T9, T2, T3, T4, T5⟩, ⟨Cb, C6, C7, C8, C9⟩, #Hlev⟩,
    Ho, ⟨%d0, %g0, %hg0, Hx⟩, ⟨%d1, %g1, %hg1, Hout⟩⟩, Hk⟩
  have hx : g0 = xstg m ρ c := by rw [hg0]; unfold Dat.before; rw [if_pos (fetch_x t₀)]; rfl
  subst hx
  unfold Dat.owesAt Pipeline.owesWithin
  icases Ho with ⟨%W, %hW, HO⟩
  rw [show (dats m ρ 0 c).owed t₀.castSucc = O₀ c from rfl]
  -- the result in its bands, `x`'s block in its shares
  ihave Hb := (Entails.of_eq (out_parts c g1)) $$ Hout
  icases Hb with ⟨B0, B1, B2, B3, B4⟩
  ihave Hs := (Entails.of_eq (x_parts m ρ c)) $$ Hx
  icases Hs with ⟨X0, X1, X2⟩
  -- the two signals lend the four bands the neighbours write
  iapply (wp_ready m ρ K c (prv c) _ (dev1_eq c) true (P := lentUp (F := F) c)
    (Entails.of_eq (by show lentUp c = lentUp (nxt (prv c)); rw [nxt_prv])) (Os c) rfl W) $$ [B1 B3 HO Tb]
  · isplitr; · iexact HR
    isplitl [B1 B3]
    · unfold lentUp
      isplitl [B1]; · iexists g1; iexact B1
      iexists g1; iexact B3
    isplitl [HO]; · iexact HO
    iexact Tb
  iintro HO
  iapply (wp_ready m ρ K c (nxt c) _ (dev2_eq c) false (P := lentDown (F := F) c)
    (Entails.of_eq (by show lentDown c = lentDown (prv (nxt c)); rw [prv_nxt])) (O₁ c) rfl W) $$ [B2 B4 HO Tb']
  · isplitr; · iexact HR
    isplitl [B2 B4]
    · unfold lentDown
      isplitl [B2]; · iexists g1; iexact B2
      iexists g1; iexact B4
    isplitl [HO]; · iexact HO
    iexact Tb'
  iintro HO
  iapply (wp_both m ρ K c W) $$ [Cb HO Pb]
  · isplitr; · iexact HR
    isplitr; · iexact Hlev
    isplitl [Cb]; · iexact Cb
    isplitl [HO]; · iexact HO
    iexact Pb
  iintro ⟨HO, Zb, Hd, Hu⟩
  ihave Hd' := (Entails.of_eq (lentDown_prv (F := F) c)) $$ Hd
  ihave Hu' := (Entails.of_eq (lentUp_nxt (F := F) c)) $$ Hu
  icases Hd' with ⟨⟨%fp, Dp⟩, %fp', Dp'⟩
  icases Hu' with ⟨⟨%fn, Dn⟩, %fn', Dn'⟩
  -- the own block to both neighbours
  iapply (wp_first m ρ K c (nxt c) _ (dev3_eq c) 1 5 _ _ rfl rfl (by decide) (by decide) credit_2.symm credit_6.symm
    (q := fullShare.left) fn rfl (handed_6 m ρ c) (O₂ c) rfl _) $$ [X0 Dn HO T2 T6]
  · isplitr; · iexact HR
    isplitl [X0]; · iexact X0
    isplitl [Dn]; · iexact Dn
    isplitl [HO]; · iexact HO
    isplitl [T2]; · iexact T2
    iexact T6
  iintro ⟨C2, HO⟩
  iapply (wp_first m ρ K c (prv c) _ (dev4_eq c) 2 6 _ _ rfl rfl (by decide) (by decide) credit_3.symm credit_7.symm
    (q := fullShare.right.left) fp rfl (handed_7 m ρ c) (O₃ c) rfl _) $$ [X1 Dp HO T3 T7]
  · isplitr; · iexact HR
    isplitl [X1]; · iexact X1
    isplitl [Dp]; · iexact Dp
    isplitl [HO]; · iexact HO
    isplitl [T3]; · iexact T3
    iexact T7
  iintro ⟨C3, HO⟩
  -- and to its own rows
  unfold xPts
  iapply (wp_load 𝒱₀ (c : Thread nD τ) none Set.univ (m := xM) (Finset.subset_univ _)) $$ X2; iintro X2
  rw [read_x]
  iapply (wp_peek c g1) $$ B0; iintro B0
  rw [show k0_pay1 (xstg m ρ c) = xstg m ρ c from shapeCast_self _ _]
  iapply (wp_put m ρ c g1) $$ B0; iintro B0
  -- the predecessor's block, whose first half goes on
  iapply (wp_take m ρ K c 5 _ rfl (by decide) (l := 2) (by decide) (above_O₃ c) _ ((own_credit c).trans credit_6.symm)
    (band c (base (c.val + 3)) 256 (whole m ρ c)) rfl) $$ [C6 HO P6]
  · isplitr; · iexact HR
    isplitr; · iexact Hlev
    isplitl [C6]; · iexact C6
    isplitl [HO]; · iexact HO
    iexact P6
  iintro ⟨HO, Z6, B1⟩
  ihave Hh := (Entails.of_eq (band_halves c (base (c.val + 3)) (whole m ρ c))) $$ B1
  icases Hh with ⟨B1, B1'⟩
  iapply (wp_second m ρ K c (nxt c) _ (dev5_eq c) 3 7 _ _ rfl rfl (by decide) (by decide) _ rfl (off3_eq c) credit_4.symm credit_8.symm
    fn' rfl (handed_8 m ρ c) (O₄ c) rfl _) $$ [B1 Dn' HO T4 T8]
  · isplitr; · iexact HR
    isplitl [B1]; · iexact B1
    isplitl [Dn']; · iexact Dn'
    isplitl [HO]; · iexact HO
    isplitl [T4]; · iexact T4
    iexact T8
  iintro ⟨C4, HO⟩
  -- the successor's, whose second half goes on
  iapply (wp_take m ρ K c 6 _ rfl (by decide) (l := 2) (by decide) (above_O₄ c) _ ((own_credit c).trans credit_7.symm)
    (band c (base (c.val + 1)) 256 (whole m ρ c)) rfl) $$ [C7 HO P7]
  · isplitr; · iexact HR
    isplitr; · iexact Hlev
    isplitl [C7]; · iexact C7
    isplitl [HO]; · iexact HO
    iexact P7
  iintro ⟨HO, Z7, B2⟩
  ihave Hh := (Entails.of_eq (band_halves c (base (c.val + 1)) (whole m ρ c))) $$ B2
  icases Hh with ⟨B2, B2'⟩
  iapply (wp_second m ρ K c (prv c) _ (dev6_eq c) 4 8 _ _ rfl rfl (by decide) (by decide) _ rfl (off4_eq c) credit_5.symm credit_9.symm
    fp' rfl (handed_9 m ρ c) 0 (zero_add _).symm _) $$ [B2' Dp' HO T5 T9]
  · isplitr; · iexact HR
    isplitl [B2']; · iexact B2'
    isplitl [Dp']; · iexact Dp'
    isplitl [HO]; · iexact HO
    isplitl [T5]; · iexact T5
    iexact T9
  iintro ⟨C5, HO⟩
  -- the six waits left
  iapply (wp_take m ρ K c 7 _ rfl (by decide) (Nat.le_refl _) (above_zero _) _ ((upper_credit c).trans credit_8.symm)
    (band c (base (c.val + 6)) 128 (whole m ρ c)) rfl) $$ [C8 HO P8]
  · isplitr; · iexact HR
    isplitr; · iexact Hlev
    isplitl [C8]; · iexact C8
    isplitl [HO]; · iexact HO
    iexact P8
  iintro ⟨HO, Z8, B3⟩
  iapply (wp_take m ρ K c 8 _ rfl (by decide) (Nat.le_refl _) (above_zero _) _ ((lower_credit c).trans credit_9.symm)
    (band c (base (c.val + 2) + 128) 128 (whole m ρ c)) rfl) $$ [C9 HO P9]
  · isplitr; · iexact HR
    isplitr; · iexact Hlev
    isplitl [C9]; · iexact C9
    isplitl [HO]; · iexact HO
    iexact P9
  iintro ⟨HO, Z9, B4⟩
  iapply (wp_take m ρ K c 1 _ rfl (by decide) (Nat.le_refl _) (above_zero _) _ (x_credit.trans credit_2.symm)
    (xPts m ρ fullShare.left c) rfl) $$ [C2 HO P2]
  · isplitr; · iexact HR
    isplitr; · iexact Hlev
    isplitl [C2]; · iexact C2
    isplitl [HO]; · iexact HO
    iexact P2
  iintro ⟨HO, Z2, X0⟩
  iapply (wp_take m ρ K c 2 _ rfl (by decide) (Nat.le_refl _) (above_zero _) _ (x_credit.trans credit_3.symm)
    (xPts m ρ fullShare.right.left c) rfl) $$ [C3 HO P3]
  · isplitr; · iexact HR
    isplitr; · iexact Hlev
    isplitl [C3]; · iexact C3
    isplitl [HO]; · iexact HO
    iexact P3
  iintro ⟨HO, Z3, X1⟩
  iapply (wp_take m ρ K c 3 _ rfl (by decide) (Nat.le_refl _) (above_zero _) _ ((upper_credit c).trans credit_4.symm)
    (band c (base (c.val + 3)) 128 (whole m ρ c)) rfl) $$ [C4 HO P4]
  · isplitr; · iexact HR
    isplitr; · iexact Hlev
    isplitl [C4]; · iexact C4
    isplitl [HO]; · iexact HO
    iexact P4
  iintro ⟨HO, Z4, B1⟩
  iapply (wp_take m ρ K c 4 _ rfl (by decide) (Nat.le_refl _) (above_zero _) _ ((lower_credit c).trans credit_5.symm)
    (band c (base (c.val + 1) + 128) 128 (whole m ρ c)) rfl) $$ [C5 HO P5]
  · isplitr; · iexact HR
    isplitr; · iexact Hlev
    isplitl [C5]; · iexact C5
    isplitl [HO]; · iexact HO
    iexact P5
  iintro ⟨HO, Z5, B2'⟩
  rw [wp_ret]; imodintro
  iapply Hk
  unfold bodyPost Φ₁ Dat.owesAt Pipeline.owesWithin
  rw [show (dats m ρ 0 c).owed t₀.succ = 0 from rfl]
  isplitl [Zb Z2 Z3 Z4 Z5 Z6 Z7 Z8 Z9]
  · isplitl [Zb]; · iexact Zb
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    iexact Z9
  isplitl [HO]
  · iexists (insert (SemLoc.dma (dq 5), ()) (insert (SemLoc.dma (dq 4), ()) (insert (SemLoc.dma (dq 3), ()) (insert (SemLoc.dma (dq 2), ()) (insert (SemLoc.dma (dq 9), ()) (insert (SemLoc.dma (dq 8), ()) (insert (SemLoc.dma (dq 7), ()) (insert (SemLoc.dma (dq 6), ()) (insert (SemLoc.reg barS, ()) (W))))))))))
    isplitr
    · ipureintro; exact fun _ _ => Or.inl trivial
    iexact HO
  isplitl [X0 X1 X2]
  · iexists (xstg m ρ c); isplitr; · ipureintro; rfl
    iapply (Entails.of_eq (x_parts m ρ c).symm)
    unfold xPts
    isplitl [X0]; · iexact X0
    isplitl [X1]; · iexact X1
    iexact X2
  iexists (whole m ρ c); isplitr; · ipureintro; rfl
  iapply (Entails.of_eq (out_parts c (whole m ρ c)).symm)
  isplitl [B0]; · iexact B0
  isplitl [B1 B1']
  · iapply (Entails.of_eq (band_halves c (base (c.val + 3)) (whole m ρ c)).symm)
    isplitl [B1]; · iexact B1
    iexact B1'
  isplitl [B2 B2']
  · iapply (Entails.of_eq (band_halves c (base (c.val + 1)) (whole m ρ c)).symm)
    isplitl [B2]; · iexact B2
    iexact B2'
  isplitl [B3]; · iexact B3
  iexact B4

set_option maxRecDepth 4000 in
/-- The pipeline's body obligation, at its one point. -/
theorem body_obligation (c : Dev nD) : BodyObligation (dats m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      cc0_scratch0 cc0_scratch1) (fun _ => bodyPost m ρ c)
  exact (show bodyPre m ρ c ⊢ iprop(bodyPre m ρ c ∗ (bodyPost m ρ c -∗ bodyPost m ρ c)) from by
    iintro H; isplitl [H]; · iexact H
    iintro H; iexact H).trans (sound_body m ρ c fun _ => bodyPost m ρ c)

end Cert.KernelIdeal.Ring

end
-- ==== Proof.KernelIdeal.Launch.lean ====
/-
  The launch: the exchange's ghost state dealt to the devices, what each is owed, and the run of @main.
-/
module

public import proofs.«01_k».proof.Proof.KernelIdeal.Body
public import Idealize.ShloMosaic.Lib.Pipeline.CollectiveSegs

@[expose] public section

noncomputable section

namespace Cert.KernelIdeal.Ring

open Cert.KernelIdeal Cert.KernelIdeal.Gen Cert.Gather

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the four send and the four receive semaphores. -/
def osem (k : Fin 8) : SemLoc sig := .dma ⟨k.val + 2, by have := k.isLt; show k.val + 2 < 10; omega⟩

/-- They are its scoped semaphores beside the pipeline's. -/
theorem ownSemFacts : Pipeline.OwnSemFacts cfg0.spec osem := by decide

omit [FloatOps F] in
/-- A device's semaphores of the exchange, the barrier's and its own, all at zero. -/
theorem zeros_eq (c : Dev nD) :
    iprop(unscopedSems0 c ∗ Pipeline.ownSems0 (Ix := Unit) (Name := ℕ) (U := UU) (Lvl := ℕ) (Val := Elt F) (τ := τ) osem c) = (Φ₁ c : sProp 𝕄) := by
  unfold unscopedSems0
  rw [bigSep_eq_bigSepL_of_eq [SemLoc.reg barS] (by decide) (by decide),
    Pipeline.ownSems0_eq_of_list c osem [0, 1, 2, 3, 4, 5, 6, 7] (by decide) (by decide)]
  rfl

omit [FloatOps F] in
/-- A family over the nine slots, one by one. -/
theorem nine (P : Fin 9 → sProp 𝕄) :
    bigSep Finset.univ P = iprop(P 0 ∗ P 1 ∗ P 2 ∗ P 3 ∗ P 4 ∗ P 5 ∗ P 6 ∗ P 7 ∗ P 8) :=
  bigSep_univ_eq_bigSepL [0, 1, 2, 3, 4, 5, 6, 7, 8] (by decide) (by decide) P

omit [FloatOps F] in
/-- A family over the ten duties, one by one. -/
theorem ten (P : Fin 10 → sProp 𝕄) :
    bigSep Finset.univ P = iprop(P 0 ∗ P 1 ∗ P 2 ∗ P 3 ∗ P 4 ∗ P 5 ∗ P 6 ∗ P 7 ∗ P 8 ∗ P 9) :=
  bigSep_univ_eq_bigSepL [0, 1, 2, 3, 4, 5, 6, 7, 8, 9] (by decide) (by decide) P

/-- The slots are distinct semaphores; -/
theorem slot_injective : Function.Injective slot := by decide
/-- the cells are distinct. -/
theorem kcell_injective : Function.Injective kcell := by
  rintro ⟨c, k⟩ ⟨d, l⟩ h
  have h1 : c = d := congrArg (fun g : GSem nD τ sig => g.1.1) h
  have h2 : k = l := slot_injective (congrArg Prod.snd h)
  rw [h1, h2]
/-- All cells of the exchange. -/
def cells : Finset (GSem nD τ sig) := Finset.univ.map ⟨kcell, kcell_injective⟩

/-- The slot on which each of a device's ten duties lies: its barrier's two, its landings', its sends'. -/
def dutySlot : Fin 10 → Fin 9 := ![0, 0, 5, 6, 7, 8, 1, 2, 3, 4]
/-- A duty's token. -/
def duty (cj : Dev nD × Fin 10) : GSem nD τ sig × ℕ × Bool := (kcell (cj.1, dutySlot cj.2), 0, decide (cj.2 = 0))
/-- The duties are distinct. -/
theorem duty_injective : Function.Injective duty := by
  rintro ⟨c, i⟩ ⟨d, j⟩ h
  have h1 := kcell_injective (congrArg Prod.fst h)
  have h2 : decide (i = 0) = decide (j = 0) := congrArg (fun x : GSem nD τ sig × ℕ × Bool => x.2.2) h
  have h3 : ∀ i j : Fin 10, dutySlot i = dutySlot j → decide (i = 0) = decide (j = 0) → i = j := by decide
  rw [show c = d from congrArg Prod.fst h1, h3 i j (congrArg Prod.snd h1) h2]
/-- All duties of the exchange. -/
def duties : Finset (GSem nD τ sig × ℕ × Bool) := Finset.univ.map ⟨duty, duty_injective⟩

/-! ## The ghost state dealt -/

/-- The launch's ghost element: the pipeline's and the exchange's. -/
def u₀ : UU := (initOf (Pipeline.cells cfgs cellOf_inj) (Pipeline.launchToks cfgs cellOf_inj), initOf cells duties)

/-- The tokens of the duties on a device's own cells. -/
def minted (c : Dev nD) : sProp 𝕄 :=
  iprop(dutyTok ER (barCell c) 0 true ∗ dutyTok ER (barCell c) 0 false
    ∗ dutyTok ER (dCell c (dq 6)) 0 false ∗ dutyTok ER (dCell c (dq 7)) 0 false
    ∗ dutyTok ER (dCell c (dq 8)) 0 false ∗ dutyTok ER (dCell c (dq 9)) 0 false
    ∗ dutyTok ER (dCell c (dq 2)) 0 false ∗ dutyTok ER (dCell c (dq 3)) 0 false
    ∗ dutyTok ER (dCell c (dq 4)) 0 false ∗ dutyTok ER (dCell c (dq 5)) 0 false)

/-- What a device gets of the launch's element. -/
def dealt (c : Dev nD) : sProp 𝕄 :=
  iprop((bigSep Finset.univ fun k : Fin 9 => roundState ER (Rd m ρ) (kcell (c, k)) 0)
    ∗ (bigSep Finset.univ fun k : Fin 9 => atPos ER (kcell (c, k)) 0 ∅ 0)
    ∗ (bigSep Finset.univ fun k : Fin 9 => reached ER (kcell (c, k)) 0) ∗ minted c)

/-- What it starts with once the cells' invariants are in place. -/
def started (c : Dev nD) : sProp 𝕄 := iprop(∃ K, ghost m ρ K c)

omit [FloatOps F] in
/-- The exchange's element funds every device. -/
theorem fund_all : BI.own (ER (initOf cells duties)) ⊢ (|==> bigSep Finset.univ (dealt m ρ) : sProp 𝕄) := by
  have hc (P : GSem nD τ sig → sProp 𝕄) :
      bigSep cells P = bigSep Finset.univ fun c : Dev nD => bigSep Finset.univ fun k : Fin 9 => P (kcell (c, k)) := by
    unfold cells; rw [bigSep_map, bigSep_univ_prod]; rfl
  have hd : bigSep duties (fun x => (dutyTok ER x.1 x.2.1 x.2.2 : sProp 𝕄)) = bigSep Finset.univ fun c : Dev nD => minted c := by
    unfold duties; rw [bigSep_map, bigSep_univ_prod]
    exact bigSep_congr fun c _ => by rw [ten]; rfl
  iintro H
  imod (Rounds.fund ER (Rd m ρ) cells duties) $$ H with ⟨Hst, Hr, Hat, Ht⟩
  imodintro
  unfold dealt; simp only [bigSep_sep']
  isplitl [Hst]; · iapply (Entails.of_eq (hc fun g => roundState ER (Rd m ρ) g 0)); iexact Hst
  isplitl [Hat]; · iapply (Entails.of_eq (hc fun g => atPos ER g 0 ∅ 0)); iexact Hat
  isplitl [Hr]; · iapply (Entails.of_eq (hc fun g => reached ER g 0)); iexact Hr
  iapply (Entails.of_eq hd); iexact Ht

omit [FloatOps F] in
/-- A device's semaphores at zero and its cells' first states make its cells' invariants. -/
theorem invs_alloc (c : Dev nD) :
    iprop((Φ₁ c : sProp 𝕄) ∗ bigSep Finset.univ fun k : Fin 9 => roundState ER (Rd m ρ) (kcell (c, k)) 0)
      ⊢ |={Set.univ}=> bigSep Finset.univ fun k : Fin 9 => iprop(∃ κ : ℕ, cellInv ER (Rd m ρ) κ (kcell (c, k))) := by
  rw [show (Φ₁ c : sProp 𝕄) = bigSep Finset.univ fun k : Fin 9 => semVal (kcell (c, k)) 0 from by rw [nine]; rfl, ← bigSep_sep']
  exact (bigSep_mono fun k _ => (Rounds.body_intro ER (Rd m ρ) (kcell (c, k))).trans inv_alloc).trans (bigSep_fupd _ _)

omit [FloatOps F] in
/-- The tokens go to the devices that pay them: round the ring in either direction, the sends' staying. -/
theorem tokens_dealt : (bigSep Finset.univ fun c : Dev nD => (minted c : sProp 𝕄)) = bigSep Finset.univ fun c : Dev nD => pays c := by
  have up (g : Dev nD → GSem nD τ sig) (d : Bool) : (bigSep Finset.univ fun c => (dutyTok ER (g c) 0 d : sProp 𝕄)) = bigSep Finset.univ fun c => dutyTok ER (g (nxt c)) 0 d :=
    bigSep_univ_equiv ring fun c => dutyTok ER (g c) 0 d
  have down (g : Dev nD → GSem nD τ sig) (d : Bool) : (bigSep Finset.univ fun c => (dutyTok ER (g c) 0 d : sProp 𝕄)) = bigSep Finset.univ fun c => dutyTok ER (g (prv c)) 0 d :=
    bigSep_univ_equiv ring.symm fun c => dutyTok ER (g c) 0 d
  unfold minted pays
  simp only [bigSep_sep']
  rw [down barCell true, up barCell false, up (fun c => dCell c (dq 6)), down (fun c => dCell c (dq 7)), up (fun c => dCell c (dq 8)),
    down (fun c => dCell c (dq 9))]

omit [FloatOps F] in
/-- The shared records, a device's places and the tokens it pays are its ghost state. -/
theorem start_one (K : Dev nD × Fin 9 → ℕ) (c : Dev nD) : iprop(records m ρ K ∗ places c ∗ pays c) ⊢ started m ρ c := by
  unfold started ghost
  iintro H
  iexists K
  iexact H

omit [FloatOps F] in
/-- From the invariants, the places and the tokens of all devices, each device's ghost state. -/
theorem all_started :
    iprop((bigSep Finset.univ fun c : Dev nD => bigSep Finset.univ fun k : Fin 9 => iprop(∃ κ : ℕ, cellInv ER (Rd m ρ) κ (kcell (c, k))))
        ∗ (bigSep Finset.univ fun c : Dev nD => bigSep Finset.univ fun k : Fin 9 => atPos ER (kcell (c, k)) 0 ∅ 0)
        ∗ (bigSep Finset.univ fun c : Dev nD => bigSep Finset.univ fun k : Fin 9 => reached ER (kcell (c, k)) 0)
        ∗ bigSep Finset.univ fun c : Dev nD => (minted c : sProp 𝕄))
      ⊢ bigSep Finset.univ (started m ρ) := by
  rw [← bigSep_univ_prod (fun ck : Dev nD × Fin 9 => iprop(∃ κ : ℕ, cellInv ER (Rd m ρ) κ (kcell ck))),
    ← bigSep_univ_prod (fun ck : Dev nD × Fin 9 => (reached ER (kcell ck) 0 : sProp 𝕄)), tokens_dealt,
    show (bigSep Finset.univ fun c : Dev nD => bigSep Finset.univ fun k : Fin 9 => (atPos ER (kcell (c, k)) 0 ∅ 0 : sProp 𝕄))
      = bigSep Finset.univ fun c : Dev nD => places c from bigSep_congr fun c _ => by rw [nine]; rfl]
  iintro ⟨HI, Hp, #Hr, Ht⟩
  ihave HK := (BI.bigSep_exists_pi Finset.univ (fun (ck : Dev nD × Fin 9) (κ : ℕ) => (cellInv ER (Rd m ρ) κ (kcell ck) : sProp 𝕄))) $$ HI
  icases HK with ⟨%K, #HI⟩
  have hall : iprop(records m ρ K ∗ bigSep Finset.univ fun c : Dev nD => iprop(places c ∗ pays c)) ⊢ bigSep Finset.univ (started m ρ) :=
    (sep_mono_left (BI.bigSep_of_persistent Finset.univ (records m ρ K))).trans (by
      rw [← bigSep_sep']
      exact bigSep_mono fun c _ => start_one m ρ K c)
  iapply hall
  isplitr
  · unfold records
    isplitl
    · iexact HI
    iexact Hr
  rw [bigSep_sep']
  isplitl [Hp] <;> iassumption

omit [FloatOps F] in
/-- The step taken by all devices at once: semaphores at zero and what was dealt become the ghost state each starts with. -/
theorem glob :
    (bigSep Finset.univ fun c => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ (started m ρ) := by
  refine ((bigSep_mono fun c _ => (?_ : _ ⊢ |={Set.univ}=> iprop((bigSep Finset.univ fun k : Fin 9 => iprop(∃ κ : ℕ, cellInv ER (Rd m ρ) κ (kcell (c, k))))
      ∗ (bigSep Finset.univ fun k : Fin 9 => atPos ER (kcell (c, k)) 0 ∅ 0)
      ∗ (bigSep Finset.univ fun k : Fin 9 => reached ER (kcell (c, k)) 0) ∗ minted c))).trans (bigSep_fupd _ _)).trans
    (BI.fupd_mono ((Entails.of_eq (by simp only [bigSep_sep'])).trans (all_started m ρ)))
  unfold dealt
  iintro ⟨Ho, Hu, Hst, Hp, Hr, Ht⟩
  ihave Hz := (Entails.of_eq (zeros_eq (F := F) c)) $$ [Ho Hu]
  · isplitl [Hu] <;> iassumption
  imod (invs_alloc m ρ c) $$ [Hz Hst] with HI
  · isplitl [Hz] <;> iassumption
  imodintro
  isplitl [HI]; · iexact HI
  isplitl [Hp]; · iexact Hp
  isplitl [Hr]; · iexact Hr
  iexact Ht

/-! ## The credit a device is due -/

/-- The credit due on a semaphore: two units on a barrier, a landing's on a receive semaphore. -/
def due (sm : SemLoc sig) : ℕ :=
  (((((if sm = .dma (dq 9) then credit 9 else 0) + (if sm = .dma (dq 8) then credit 8 else 0)) + (if sm = .dma (dq 7) then credit 7 else 0))
    + (if sm = .dma (dq 6) then credit 6 else 0)) + (if sm = .reg barS then 1 else 0)) + (if sm = .reg barS then 1 else 0)

/-- When every device owes one other device's semaphore `sm'`, round the ring either way, the devices together owe each device's
    that once. -/
theorem owed_once (e : Dev nD ≃ Dev nD) (sm sm' : SemLoc sig) (n : ℕ) (c : Dev nD) :
    (Finset.univ.sum fun d : Dev nD => (tallyAt (((e d : Dev nD) : Thread nD τ), sm') () n : CellTallies nD τ sig Unit) ((c : Thread nD τ), sm) ())
      = if sm = sm' then n else 0 := by
  have h (d : Dev nD) : (tallyAt (((e d : Dev nD) : Thread nD τ), sm') () n : CellTallies nD τ sig Unit) ((c : Thread nD τ), sm) ()
      = if d = e.symm c then (if sm = sm' then n else 0) else 0 := by
    rw [tallyAt_apply]
    by_cases hd : d = e.symm c
    · subst hd
      rw [if_pos rfl, e.apply_symm_apply]
      by_cases hs : sm = sm'
      · rw [if_pos hs, if_pos ⟨by rw [hs], rfl⟩]
      · rw [if_neg hs, if_neg fun h => hs (congrArg Prod.snd h.1)]
    · rw [if_neg hd, if_neg fun h => hd (by
        rw [show c = e d from congrArg (fun g : GSem nD τ sig => g.1.1) h.1, e.symm_apply_apply])]
  rw [Finset.sum_congr rfl fun d _ => h d, Finset.sum_ite_eq' Finset.univ (e.symm c) fun _ => _, if_pos (Finset.mem_univ _)]

/-- The launch's credit on a cell is what is due there. -/
theorem launch_at (c : Dev nD) (sm : SemLoc sig) :
    tallyOn ((c : Thread nD τ), sm) (launchCredit (Pipeline.owing O₀) 0 ((c : Thread nD τ), sm))
      = (tallyAt ((c : Thread nD τ), sm) () (due sm) : CellTallies nD τ sig Unit) := by
  unfold tallyAt; refine congrArg _ (Finsupp.ext fun u => ?_); cases u
  rw [Pipeline.launchCredit_owing, Finsupp.single_eq_same]
  unfold O₀ Os O₁ O₂ O₃ O₄
  simp only [Pi.add_apply, Finsupp.add_apply, Finset.sum_add_distrib]
  unfold due
  rw [← owed_once ring.symm sm (.dma (dq 9)) (credit 9) c, ← owed_once ring sm (.dma (dq 8)) (credit 8) c,
    ← owed_once ring.symm sm (.dma (dq 7)) (credit 7) c, ← owed_once ring sm (.dma (dq 6)) (credit 6) c]
  refine congrArg₂ (· + ·) (congrArg₂ (· + ·) rfl ?_) ?_
  · exact owed_once ring sm (.reg barS) 1 c
  · exact owed_once ring.symm sm (.reg barS) 1 c

omit [FloatOps F] in
/-- A device's credit from the launch holds its five. -/
theorem creds (c : Dev nD) : (Pipeline.launchCred O₀ c : sProp 𝕄) ⊢ dues c := by
  unfold Pipeline.launchCred
  simp only [launch_at]
  refine BIBase.Entails.trans (BI.bigSep_subset (Finset.subset_univ ([SemLoc.reg barS, .dma (dq 6), .dma (dq 7), .dma (dq 8), .dma (dq 9)] : List (SemLoc sig)).toFinset)) ?_
  rw [bigSep_eq_bigSepL_of_eq [SemLoc.reg barS, .dma (dq 6), .dma (dq 7), .dma (dq 8), .dma (dq 9)] rfl (by decide)]
  exact Entails.of_eq rfl

/-! ## The theorem's side conditions -/

/-- The pipeline holds its arrays whole. -/
theorem share_eq (c : Dev nD) (w : Fin cfg0.W) : (dats m ρ 0 c).share w = fullShare := by unfold Dat.share; split <;> rfl

omit [FloatOps F] in
/-- The body's start, from the launch. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ started m ρ c)
      ⊢ |={Set.univ}=> iprop(Φ₀ m ρ c ∗ emp) := by
  iintro ⟨-, Hlev, Hc, -, Hg⟩
  ihave Hc := (creds (F := F) c) $$ Hc
  imodintro
  unfold Φ₀ started
  isplitl
  · isplitl [Hg]; · iexact Hg
    isplitl [Hc]; · iexact Hc
    iexact Hlev
  iempintro

/-- The region's entry: nothing scoped beside the pipeline's own. -/
theorem enter (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  iintro ⟨H, -, -⟩
  iexact H

/-- The region's exit: the semaphores at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ← zeros_eq]
  iintro ⟨Hu, Ho⟩
  isplitl [Hu]; · iexact Hu
  isplitl [Ho]; · iexact Ho
  iempintro

/-- The pipeline's waits are below all that is owed. -/
theorem waits (c : Dev nD) : (levAts L lv : sProp 𝕄) ⊢ Pipeline.cellsWaits cfgs (dats m ρ) () 0 c :=
  Pipeline.cellsWaits_intro cfgs (dats m ρ) () 0 c fun w s t =>
    mayWait c _ (k := 0) (by fin_cases w <;> fin_cases s <;> exact Nat.le_refl 0) (by
      rcases t with ⟨_ | _, ht⟩
      · exact above_O₀ c
      · exact above_zero 0)

/-! ## The run -/

/-- What a window's array holds at the end. -/
def finalA (c : Dev nD) (w : Fin cfg0.W) : Buf (Elt F) ((cfg0.win w).arr.view.loc (c : Thread nD τ)) := (dats m ρ 0 c).arrAt w cfg0.N

/-- The run's end: every window's array at that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every fair execution of @main on the mesh ends, with the arrays at their final contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0)
    (hshare := share_eq m ρ) (hdistinct := winFacts0.arr_inj)
    (O₀ := O₀) (howed₀ := fun _ => rfl) (howedN := fun _ => rfl)
    (L := L) (lv := lv) (hL := L_of_ne) (hwaits := waits m ρ)
    (G := dealt m ρ) (G' := started m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x`'s array ends as it was. -/
theorem finalA_x (c : Dev nD) : finalA m ρ c (0 : Fin 2) = (s₀ m ρ).mem (win0_0.arr.view.loc (c : Thread nD τ)) :=
  (dats m ρ 0 c).arrAt_in (0 : Fin 2) rfl _

end Cert.KernelIdeal.Ring

end
-- ==== Proof.KernelIdeal.Value.lean ====
/-
  What the run leaves in the result: on every device the whole array of which each device held its block.
-/
module

public import proofs.«01_k».proof.Proof.KernelIdeal.Launch
public import proofs.«01_k».proof.Proof.Gen.KernelIdeal.Points
public import Idealize.ShloMosaic.Lib.Layout

@[expose] public section

noncomputable section

namespace Cert.KernelIdeal.Ring

open Cert.KernelIdeal Cert.KernelIdeal.Gen Cert.Gather

open Idealize.ShloMosaic
open Idealize.ShloMosaic.TcCoe
open Idealize.SL.Sem
open Idealize.ShloMosaic.Pipeline (Dat Cfg Window)

variable {F : FTy → Type} [FloatOps F]

variable (m : (ℓ : Loc nD τ sig) → Buf (Elt F) ℓ) (ρ : Dev nD → PrngReg)

/-! ## The arrays at the end -/

omit [FloatOps F] in
/-- What `x`'s window reads is the device's argument array, all of it. -/
theorem xstg_eq (c : Dev nD) : xstg m ρ c = m ((c : Thread nD τ).loc main_arg0) :=
  Memref.read_access_unit_zero (Elt F) main_arg0 (funext fun a => Nat.zero_mul _) (fun a => by fin_cases a <;> decide) _

/-- The result's array ends holding the gathered array: its one block, the whole of it, is written back once. -/
theorem finalA_out (c : Dev nD) : finalA m ρ c (1 : Fin 2) = whole m ρ c := by
  unfold finalA
  rw [show cfg0.N = ((0 : Fin 1) : Fin cfg0.N).val + 1 from rfl, (dats m ρ 0 c).arrAt_succ (1 : Fin 2) (0 : Fin 1),
    if_pos (flush0_1 (0 : Fin 1))]
  exact Memref.write_access_unit_zero_univ (Elt F) main_v1 (funext fun a => Nat.zero_mul _) (fun a => by rw [Nat.zero_mul, Nat.zero_add]) _ _

/-! ## The gathered array -/

/-- Device `d` holds the block its position in its ring names. -/
theorem block_row (d : Dev nD) : ((Layout.meshBlock [2, 4, 4] ![[2], []] d : (b : Fin 2) → _) 0).val = d.val % 4 := by
  revert d; decide

/-- Along the columns there is one block. -/
theorem block_col (d : Dev nD) : ((Layout.meshBlock [2, 4, 4] ![[2], []] d : (b : Fin 2) → _) 1).val = 0 := rfl

omit [FloatOps F] in
/-- If every device holds its block of `X`, what a ring gathers is `X`. -/
theorem whole_eq (X : Whole.Idx → Elt F .f32)
    (hX : ∀ d : Dev nD, m ((d : Thread nD τ).loc main_arg0) =
      Layout.blockN ⟨2, ![256, 256]⟩ ⟨2, ![1024, 256]⟩ (Layout.meshBlock [2, 4, 4] ![[2], []] d) X) (c : Dev nD) :
    whole m ρ c = X := by
  funext i
  have hi : (i 0).val < 1024 := (i 0).isLt
  unfold whole
  rw [xstg_eq, hX]
  refine congrArg X (funext fun a => Fin.ext ?_)
  fin_cases a
  · show ((Layout.meshBlock [2, 4, 4] ![[2], []] (mate c ((i 0).val / 256)) : (b : Fin 2) → _) 0).val * 256 + (i 0).val % 256 = (i 0).val
    rw [block_row]
    show (c.val - c.val % 4 + (i 0).val / 256 % 4) % 4 * 256 + (i 0).val % 256 = (i 0).val
    omega
  · show ((Layout.meshBlock [2, 4, 4] ![[2], []] (mate c ((i 0).val / 256)) : (b : Fin 2) → _) 1).val * 256 + (i 1).val = (i 1).val
    rw [block_col]; omega

/-! ## The runs the claims speak of -/

/-- The run ends, with the arguments as they were and every semaphore at zero. -/
theorem run_frame : θ_run defs (onTc (τ := τ) (main (F := F))) (s₀ m ρ) (fun r =>
    (∀ c : Dev nD, r.2.mem ((c : Thread nD τ).loc main_arg0) = m ((c : Thread nD τ).loc main_arg0)) ∧ r.2.sem = fun _ => 0) :=
  (θ_run defs _ _).mono (fun _ h => ⟨fun c => (h.1 c (0 : Fin 2)).trans (finalA_x m ρ c), h.2⟩) (run_main m ρ)

/-- From devices that hold their blocks of `X`, the run ends with `X` whole on every device and the arguments as they were. -/
theorem run_value (X : Whole.Idx → Elt F .f32)
    (hX : ∀ d : Dev nD, m ((d : Thread nD τ).loc main_arg0) =
      Layout.blockN ⟨2, ![256, 256]⟩ ⟨2, ![1024, 256]⟩ (Layout.meshBlock [2, 4, 4] ![[2], []] d) X) :
    θ_run defs (onTc (τ := τ) (main (F := F))) (s₀ m ρ) (fun r => ∀ c : Dev nD,
      r.2.mem ((c : Thread nD τ).loc main_v1) = X
      ∧ r.2.mem ((c : Thread nD τ).loc main_arg0) = m ((c : Thread nD τ).loc main_arg0)) :=
  (θ_run defs _ _).mono (fun _ h c =>
    ⟨((h.1 c (1 : Fin 2)).trans (finalA_out m ρ c)).trans (whole_eq m ρ X hX c), (h.1 c (0 : Fin 2)).trans (finalA_x m ρ c)⟩) (run_main m ρ)

end Cert.KernelIdeal.Ring

end
-- ==== Proof.Reference.Run.lean ====
/-
  The reference's run: it returns its argument, so it ends with the argument as it was.
-/
module

public import proofs.«01_k».proof.Proof.Gen.Reference
public import Idealize.ShloMosaic.Lib.StableHlo.Run
public import Idealize.ShloMosaic.Lib.Quiescent

@[expose] public section

noncomputable section

namespace Cert.Reference.Same

open Cert.Reference Cert.Reference.Gen
open Idealize.ShloMosaic Idealize.ShloMosaic.TcCoe Idealize.SL.Sem

variable {F : FTy → Type} [FloatOps F]

/-- @main performs no operation: it ends with every array as it was and every semaphore at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.Reference.Same

end
-- ==== Proof.ReferenceIdeal.Run.lean ====
/-
  The reference's run: it returns its argument, so it ends with the argument as it was.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Same

open Cert.ReferenceIdeal Cert.ReferenceIdeal.Gen
open Idealize.ShloMosaic Idealize.ShloMosaic.TcCoe Idealize.SL.Sem

variable {F : FTy → Type} [FloatOps F]

/-- @main performs no operation: it ends with every array as it was and every semaphore at zero. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Cert.ReferenceIdeal.Same

end
-- ==== Proof.lean ====
/-
  The certificate assembled: the kernel's frames and results from the exchange (Proof/Kernel, Proof/KernelIdeal),
  the reference's from its run (Proof/Reference, Proof/ReferenceIdeal).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Kernel.Value
public import proofs.«01_k».proof.Proof.KernelIdeal.Value
public import proofs.«01_k».proof.Proof.Reference.Run
public import proofs.«01_k».proof.Proof.ReferenceIdeal.Run
public import Idealize.ShloMosaic.Adequacy
public import Idealize.ShloMosaic.Init

@[expose] public section

noncomputable section

namespace Cert.Proof

open Idealize.ShloMosaic Idealize.SL.Sem

/-! ## The frames -/

/-- The kernel's run ends at rest, its arguments as they were. -/
theorem frame_kernel : Cert.quiescent_Kernel := fun m ρ _ => Cert.Kernel.Ring.run_frame (F := Bits) m ρ

/-- So does its reading at the extended reals. -/
theorem frame_kernelIdeal : Cert.quiescent_KernelIdeal := fun m ρ _ => Cert.KernelIdeal.Ring.run_frame (F := Ideal) m ρ

/-- The reference performs nothing, over the extended reals -/
theorem frame_referenceIdeal : Cert.quiescent_ReferenceIdeal := fun m ρ _ => Cert.ReferenceIdeal.Same.run (F := Ideal) m ρ

/-- and over the machine's numbers. -/
theorem frame_reference : Cert.quiescent_Reference := fun m ρ _ => Cert.Reference.Same.run (F := Bits) m ρ

/-! ## The results -/

/-- Over the extended reals every device ends holding the reference's result: the whole array of which each was given its block. -/
theorem same_ideal : Cert.algebraic_KernelIdeal_ReferenceIdeal := fun m ρ m' ρ' _ hX =>
  ⟨_, Cert.KernelIdeal.Ring.run_value (F := Ideal) m ρ _ hX,
    (θ_run Cert.ReferenceIdeal.defs _ _).mono (fun _ h => ⟨h.1 0, h.1 0⟩) (Cert.ReferenceIdeal.Same.run (F := Ideal) m' ρ')⟩

/-- And bit for bit, since the rows are only moved. -/
theorem same_bits : Cert.bitexact_Kernel_Reference := fun m ρ m' ρ' _ hX =>
  ⟨_, Cert.Kernel.Ring.run_value (F := Bits) m ρ _ hX,
    (θ_run Cert.Reference.defs _ _).mono (fun _ h => ⟨h.1 0, h.1 0⟩) (Cert.Reference.Same.run (F := Bits) m' ρ')⟩

/-- All the claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, same_ideal, same_bits⟩

end Cert.Proof

end
